-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2x256x1024 : Shape := ⟨3, ![2, 256, 1024]⟩
abbrev S16 : Shape := ⟨1, ![16]⟩
abbrev S2 : Shape := ⟨1, ![2]⟩
abbrev S_ : Shape := ⟨0, ![]⟩
abbrev S1 : Shape := ⟨1, ![1]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S8192x1024, .f32⟩
  | .local _ .vmem, ⟨1, _⟩ => ⟨S2x256x1024, .f32⟩
  | _, _ => ⟨S8192x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v15 : BitVec 32 := Scalar.muli v2 c4_i32_8
  let v16 : BitVec 32 := Scalar.addi c0_i32 v15
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_9 : BitVec 32 := 2#32
  let v17 : BitVec 32 := Scalar.muli v9 c2_i32_9
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_10 : BitVec 32 := 1#32
  let v19 : BitVec 32 := Scalar.muli v8 c1_i32_10
  let v20 : BitVec 32 := Scalar.addi v18 v19
  v20.toNat
def k0_dev2 (d0 : Dev nD) : Nat :=
  let c0_i32_13 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_12 : BitVec 32 := 4#32
  let v21 : BitVec 32 := Scalar.muli v10 c4_i32_12
  let v22 : BitVec 32 := Scalar.addi c0_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v23 : BitVec 32 := Scalar.muli v5 c2_i32_14
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v25 : BitVec 32 := Scalar.muli v8 c1_i32_15
  let v26 : BitVec 32 := Scalar.addi v24 v25
  v26.toNat
def k0_off1 (d0 : Dev nD) (c0_i32_17 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v11 : BitVec 32 := Scalar.muli v2 c4096_i32
  let v27 : BitVec 32 := Scalar.addi v11 c0_i32_17
  let c0_i32_24 : BitVec 32 := 0#32
  ![v27.toNat, 0]
def k0_dev3 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v28 : BitVec 32 := Scalar.muli v2 c4_i32_20
  let v29 : BitVec 32 := Scalar.addi c0_i32_21 v28
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_22 : BitVec 32 := 2#32
  let v30 : BitVec 32 := Scalar.muli v9 c2_i32_22
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_23 : BitVec 32 := 1#32
  let v32 : BitVec 32 := Scalar.muli v8 c1_i32_23
  let v33 : BitVec 32 := Scalar.addi v31 v32
  v33.toNat
def k0_dev4 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v41 : BitVec 32 := Scalar.muli v2 c4_i32_28
  let v42 : BitVec 32 := Scalar.addi c0_i32_29 v41
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_30 : BitVec 32 := 2#32
  let v43 : BitVec 32 := Scalar.muli v9 c2_i32_30
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v45 : BitVec 32 := Scalar.muli v8 c1_i32_31
  let v46 : BitVec 32 := Scalar.addi v44 v45
  v46.toNat
def k0_dev5 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v54 : BitVec 32 := Scalar.muli v2 c4_i32_36
  let v55 : BitVec 32 := Scalar.addi c0_i32_37 v54
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_38 : BitVec 32 := 2#32
  let v56 : BitVec 32 := Scalar.muli v9 c2_i32_38
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v58 : BitVec 32 := Scalar.muli v8 c1_i32_39
  let v59 : BitVec 32 := Scalar.addi v57 v58
  v59.toNat
def k0_dev6 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v67 : BitVec 32 := Scalar.muli v2 c4_i32_43
  let v68 : BitVec 32 := Scalar.addi c0_i32_44 v67
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_45 : BitVec 32 := 2#32
  let v69 : BitVec 32 := Scalar.muli v9 c2_i32_45
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v71 : BitVec 32 := Scalar.muli v8 c1_i32_46
  let v72 : BitVec 32 := Scalar.addi v70 v71
  v72.toNat
def k0_dev7 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v80 : BitVec 32 := Scalar.muli v2 c4_i32_51
  let v81 : BitVec 32 := Scalar.addi c0_i32_52 v80
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_53 : BitVec 32 := 2#32
  let v82 : BitVec 32 := Scalar.muli v9 c2_i32_53
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v84 : BitVec 32 := Scalar.muli v8 c1_i32_54
  let v85 : BitVec 32 := Scalar.addi v83 v84
  v85.toNat
def k0_dev8 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v93 : BitVec 32 := Scalar.muli v2 c4_i32_58
  let v94 : BitVec 32 := Scalar.addi c0_i32_59 v93
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_60 : BitVec 32 := 2#32
  let v95 : BitVec 32 := Scalar.muli v9 c2_i32_60
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v97 : BitVec 32 := Scalar.muli v8 c1_i32_61
  let v98 : BitVec 32 := Scalar.addi v96 v97
  v98.toNat
def k0_dev9 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v106 : BitVec 32 := Scalar.muli v2 c4_i32_65
  let v107 : BitVec 32 := Scalar.addi c0_i32_66 v106
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_67 : BitVec 32 := 2#32
  let v108 : BitVec 32 := Scalar.muli v9 c2_i32_67
  let v109 : BitVec 32 := Scalar.addi v107 v108
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v110 : BitVec 32 := Scalar.muli v8 c1_i32_68
  let v111 : BitVec 32 := Scalar.addi v109 v110
  v111.toNat
def k0_dev10 (d0 : Dev nD) : Nat :=
  let c0_i32_73 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_72 : BitVec 32 := 4#32
  let v119 : BitVec 32 := Scalar.muli v2 c4_i32_72
  let v120 : BitVec 32 := Scalar.addi c0_i32_73 v119
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_74 : BitVec 32 := 2#32
  let v121 : BitVec 32 := Scalar.muli v9 c2_i32_74
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v123 : BitVec 32 := Scalar.muli v8 c1_i32_75
  let v124 : BitVec 32 := Scalar.addi v122 v123
  v124.toNat
def k0_dev11 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v132 : BitVec 32 := Scalar.muli v2 c4_i32_79
  let v133 : BitVec 32 := Scalar.addi c0_i32_80 v132
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_81 : BitVec 32 := 2#32
  let v134 : BitVec 32 := Scalar.muli v9 c2_i32_81
  let v135 : BitVec 32 := Scalar.addi v133 v134
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v136 : BitVec 32 := Scalar.muli v8 c1_i32_82
  let v137 : BitVec 32 := Scalar.addi v135 v136
  v137.toNat
def k0_dev12 (d0 : Dev nD) : Nat :=
  let c0_i32_87 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_86 : BitVec 32 := 4#32
  let v145 : BitVec 32 := Scalar.muli v2 c4_i32_86
  let v146 : BitVec 32 := Scalar.addi c0_i32_87 v145
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_88 : BitVec 32 := 2#32
  let v147 : BitVec 32 := Scalar.muli v9 c2_i32_88
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v149 : BitVec 32 := Scalar.muli v8 c1_i32_89
  let v150 : BitVec 32 := Scalar.addi v148 v149
  v150.toNat
def k0_dev13 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v158 : BitVec 32 := Scalar.muli v2 c4_i32_93
  let v159 : BitVec 32 := Scalar.addi c0_i32_94 v158
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_95 : BitVec 32 := 2#32
  let v160 : BitVec 32 := Scalar.muli v9 c2_i32_95
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v162 : BitVec 32 := Scalar.muli v8 c1_i32_96
  let v163 : BitVec 32 := Scalar.addi v161 v162
  v163.toNat
def k0_dev14 (d0 : Dev nD) : Nat :=
  let c0_i32_101 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_100 : BitVec 32 := 4#32
  let v171 : BitVec 32 := Scalar.muli v2 c4_i32_100
  let v172 : BitVec 32 := Scalar.addi c0_i32_101 v171
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_102 : BitVec 32 := 2#32
  let v173 : BitVec 32 := Scalar.muli v9 c2_i32_102
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_103 : BitVec 32 := 1#32
  let v175 : BitVec 32 := Scalar.muli v8 c1_i32_103
  let v176 : BitVec 32 := Scalar.addi v174 v175
  v176.toNat
def k0_dev15 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v184 : BitVec 32 := Scalar.muli v2 c4_i32_107
  let v185 : BitVec 32 := Scalar.addi c0_i32_108 v184
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_109 : BitVec 32 := 2#32
  let v186 : BitVec 32 := Scalar.muli v9 c2_i32_109
  let v187 : BitVec 32 := Scalar.addi v185 v186
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v188 : BitVec 32 := Scalar.muli v8 c1_i32_110
  let v189 : BitVec 32 := Scalar.addi v187 v188
  v189.toNat
def k0_dev16 (d0 : Dev nD) : Nat :=
  let c0_i32_115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_114 : BitVec 32 := 4#32
  let v197 : BitVec 32 := Scalar.muli v2 c4_i32_114
  let v198 : BitVec 32 := Scalar.addi c0_i32_115 v197
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_116 : BitVec 32 := 2#32
  let v199 : BitVec 32 := Scalar.muli v9 c2_i32_116
  let v200 : BitVec 32 := Scalar.addi v198 v199
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v201 : BitVec 32 := Scalar.muli v8 c1_i32_117
  let v202 : BitVec 32 := Scalar.addi v200 v201
  v202.toNat
def k0_dev17 (d0 : Dev nD) : Nat :=
  let c0_i32_122 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_121 : BitVec 32 := 4#32
  let v210 : BitVec 32 := Scalar.muli v2 c4_i32_121
  let v211 : BitVec 32 := Scalar.addi c0_i32_122 v210
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_123 : BitVec 32 := 2#32
  let v212 : BitVec 32 := Scalar.muli v9 c2_i32_123
  let v213 : BitVec 32 := Scalar.addi v211 v212
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v214 : BitVec 32 := Scalar.muli v8 c1_i32_124
  let v215 : BitVec 32 := Scalar.addi v213 v214
  v215.toNat
def k0_dev18 (d0 : Dev nD) : Nat :=
  let c0_i32_129 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_128 : BitVec 32 := 4#32
  let v223 : BitVec 32 := Scalar.muli v2 c4_i32_128
  let v224 : BitVec 32 := Scalar.addi c0_i32_129 v223
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_130 : BitVec 32 := 2#32
  let v225 : BitVec 32 := Scalar.muli v9 c2_i32_130
  let v226 : BitVec 32 := Scalar.addi v224 v225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_131 : BitVec 32 := 1#32
  let v227 : BitVec 32 := Scalar.muli v8 c1_i32_131
  let v228 : BitVec 32 := Scalar.addi v226 v227
  v228.toNat
def k0_dev19 (d0 : Dev nD) : Nat :=
  let c0_i32_161 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_160 : BitVec 32 := 4#32
  let v261 : BitVec 32 := Scalar.muli v10 c4_i32_160
  let v262 : BitVec 32 := Scalar.addi c0_i32_161 v261
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_162 : BitVec 32 := 2#32
  let v263 : BitVec 32 := Scalar.muli v5 c2_i32_162
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_163 : BitVec 32 := 1#32
  let v265 : BitVec 32 := Scalar.muli v8 c1_i32_163
  let v266 : BitVec 32 := Scalar.addi v264 v265
  v266.toNat
def k0_dev20 (d0 : Dev nD) : Nat :=
  let c0_i32_177 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_176 : BitVec 32 := 4#32
  let v283 : BitVec 32 := Scalar.muli v10 c4_i32_176
  let v284 : BitVec 32 := Scalar.addi c0_i32_177 v283
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_178 : BitVec 32 := 2#32
  let v285 : BitVec 32 := Scalar.muli v5 c2_i32_178
  let v286 : BitVec 32 := Scalar.addi v284 v285
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_179 : BitVec 32 := 1#32
  let v287 : BitVec 32 := Scalar.muli v8 c1_i32_179
  let v288 : BitVec 32 := Scalar.addi v286 v287
  v288.toNat
def k0_dev21 (d0 : Dev nD) : Nat :=
  let c0_i32_193 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_192 : BitVec 32 := 4#32
  let v305 : BitVec 32 := Scalar.muli v10 c4_i32_192
  let v306 : BitVec 32 := Scalar.addi c0_i32_193 v305
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_194 : BitVec 32 := 2#32
  let v307 : BitVec 32 := Scalar.muli v5 c2_i32_194
  let v308 : BitVec 32 := Scalar.addi v306 v307
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_195 : BitVec 32 := 1#32
  let v309 : BitVec 32 := Scalar.muli v8 c1_i32_195
  let v310 : BitVec 32 := Scalar.addi v308 v309
  v310.toNat
def k0_dev22 (d0 : Dev nD) : Nat :=
  let c0_i32_209 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_208 : BitVec 32 := 4#32
  let v327 : BitVec 32 := Scalar.muli v10 c4_i32_208
  let v328 : BitVec 32 := Scalar.addi c0_i32_209 v327
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_210 : BitVec 32 := 2#32
  let v329 : BitVec 32 := Scalar.muli v5 c2_i32_210
  let v330 : BitVec 32 := Scalar.addi v328 v329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_211 : BitVec 32 := 1#32
  let v331 : BitVec 32 := Scalar.muli v8 c1_i32_211
  let v332 : BitVec 32 := Scalar.addi v330 v331
  v332.toNat
def k0_dev23 (d0 : Dev nD) : Nat :=
  let c0_i32_225 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_224 : BitVec 32 := 4#32
  let v349 : BitVec 32 := Scalar.muli v10 c4_i32_224
  let v350 : BitVec 32 := Scalar.addi c0_i32_225 v349
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_226 : BitVec 32 := 2#32
  let v351 : BitVec 32 := Scalar.muli v5 c2_i32_226
  let v352 : BitVec 32 := Scalar.addi v350 v351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_227 : BitVec 32 := 1#32
  let v353 : BitVec 32 := Scalar.muli v8 c1_i32_227
  let v354 : BitVec 32 := Scalar.addi v352 v353
  v354.toNat
def k0_dev24 (d0 : Dev nD) : Nat :=
  let c0_i32_241 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_240 : BitVec 32 := 4#32
  let v371 : BitVec 32 := Scalar.muli v10 c4_i32_240
  let v372 : BitVec 32 := Scalar.addi c0_i32_241 v371
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_242 : BitVec 32 := 2#32
  let v373 : BitVec 32 := Scalar.muli v5 c2_i32_242
  let v374 : BitVec 32 := Scalar.addi v372 v373
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_243 : BitVec 32 := 1#32
  let v375 : BitVec 32 := Scalar.muli v8 c1_i32_243
  let v376 : BitVec 32 := Scalar.addi v374 v375
  v376.toNat
def k0_dev25 (d0 : Dev nD) : Nat :=
  let c0_i32_257 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_256 : BitVec 32 := 4#32
  let v393 : BitVec 32 := Scalar.muli v10 c4_i32_256
  let v394 : BitVec 32 := Scalar.addi c0_i32_257 v393
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_258 : BitVec 32 := 2#32
  let v395 : BitVec 32 := Scalar.muli v5 c2_i32_258
  let v396 : BitVec 32 := Scalar.addi v394 v395
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_259 : BitVec 32 := 1#32
  let v397 : BitVec 32 := Scalar.muli v8 c1_i32_259
  let v398 : BitVec 32 := Scalar.addi v396 v397
  v398.toNat
def k0_dev26 (d0 : Dev nD) : Nat :=
  let c0_i32_273 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_272 : BitVec 32 := 4#32
  let v415 : BitVec 32 := Scalar.muli v10 c4_i32_272
  let v416 : BitVec 32 := Scalar.addi c0_i32_273 v415
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_274 : BitVec 32 := 2#32
  let v417 : BitVec 32 := Scalar.muli v5 c2_i32_274
  let v418 : BitVec 32 := Scalar.addi v416 v417
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_275 : BitVec 32 := 1#32
  let v419 : BitVec 32 := Scalar.muli v8 c1_i32_275
  let v420 : BitVec 32 := Scalar.addi v418 v419
  v420.toNat
def k0_dev27 (d0 : Dev nD) : Nat :=
  let c0_i32_289 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_288 : BitVec 32 := 4#32
  let v437 : BitVec 32 := Scalar.muli v10 c4_i32_288
  let v438 : BitVec 32 := Scalar.addi c0_i32_289 v437
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_290 : BitVec 32 := 2#32
  let v439 : BitVec 32 := Scalar.muli v5 c2_i32_290
  let v440 : BitVec 32 := Scalar.addi v438 v439
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_291 : BitVec 32 := 1#32
  let v441 : BitVec 32 := Scalar.muli v8 c1_i32_291
  let v442 : BitVec 32 := Scalar.addi v440 v441
  v442.toNat
def k0_dev28 (d0 : Dev nD) : Nat :=
  let c0_i32_305 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_304 : BitVec 32 := 4#32
  let v459 : BitVec 32 := Scalar.muli v10 c4_i32_304
  let v460 : BitVec 32 := Scalar.addi c0_i32_305 v459
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_306 : BitVec 32 := 2#32
  let v461 : BitVec 32 := Scalar.muli v5 c2_i32_306
  let v462 : BitVec 32 := Scalar.addi v460 v461
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_307 : BitVec 32 := 1#32
  let v463 : BitVec 32 := Scalar.muli v8 c1_i32_307
  let v464 : BitVec 32 := Scalar.addi v462 v463
  v464.toNat
def k0_dev29 (d0 : Dev nD) : Nat :=
  let c0_i32_321 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_320 : BitVec 32 := 4#32
  let v481 : BitVec 32 := Scalar.muli v10 c4_i32_320
  let v482 : BitVec 32 := Scalar.addi c0_i32_321 v481
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_322 : BitVec 32 := 2#32
  let v483 : BitVec 32 := Scalar.muli v5 c2_i32_322
  let v484 : BitVec 32 := Scalar.addi v482 v483
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_323 : BitVec 32 := 1#32
  let v485 : BitVec 32 := Scalar.muli v8 c1_i32_323
  let v486 : BitVec 32 := Scalar.addi v484 v485
  v486.toNat
def k0_dev30 (d0 : Dev nD) : Nat :=
  let c0_i32_337 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_336 : BitVec 32 := 4#32
  let v503 : BitVec 32 := Scalar.muli v10 c4_i32_336
  let v504 : BitVec 32 := Scalar.addi c0_i32_337 v503
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_338 : BitVec 32 := 2#32
  let v505 : BitVec 32 := Scalar.muli v5 c2_i32_338
  let v506 : BitVec 32 := Scalar.addi v504 v505
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_339 : BitVec 32 := 1#32
  let v507 : BitVec 32 := Scalar.muli v8 c1_i32_339
  let v508 : BitVec 32 := Scalar.addi v506 v507
  v508.toNat
def k0_dev31 (d0 : Dev nD) : Nat :=
  let c0_i32_353 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_352 : BitVec 32 := 4#32
  let v525 : BitVec 32 := Scalar.muli v10 c4_i32_352
  let v526 : BitVec 32 := Scalar.addi c0_i32_353 v525
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_354 : BitVec 32 := 2#32
  let v527 : BitVec 32 := Scalar.muli v5 c2_i32_354
  let v528 : BitVec 32 := Scalar.addi v526 v527
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_355 : BitVec 32 := 1#32
  let v529 : BitVec 32 := Scalar.muli v8 c1_i32_355
  let v530 : BitVec 32 := Scalar.addi v528 v529
  v530.toNat
def k0_dev32 (d0 : Dev nD) : Nat :=
  let c0_i32_369 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_368 : BitVec 32 := 4#32
  let v547 : BitVec 32 := Scalar.muli v10 c4_i32_368
  let v548 : BitVec 32 := Scalar.addi c0_i32_369 v547
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_370 : BitVec 32 := 2#32
  let v549 : BitVec 32 := Scalar.muli v5 c2_i32_370
  let v550 : BitVec 32 := Scalar.addi v548 v549
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_371 : BitVec 32 := 1#32
  let v551 : BitVec 32 := Scalar.muli v8 c1_i32_371
  let v552 : BitVec 32 := Scalar.addi v550 v551
  v552.toNat
def k0_dev33 (d0 : Dev nD) : Nat :=
  let c0_i32_385 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_384 : BitVec 32 := 4#32
  let v569 : BitVec 32 := Scalar.muli v10 c4_i32_384
  let v570 : BitVec 32 := Scalar.addi c0_i32_385 v569
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_386 : BitVec 32 := 2#32
  let v571 : BitVec 32 := Scalar.muli v5 c2_i32_386
  let v572 : BitVec 32 := Scalar.addi v570 v571
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_387 : BitVec 32 := 1#32
  let v573 : BitVec 32 := Scalar.muli v8 c1_i32_387
  let v574 : BitVec 32 := Scalar.addi v572 v573
  v574.toNat
def k0_dev34 (d0 : Dev nD) : Nat :=
  let c0_i32_401 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_400 : BitVec 32 := 4#32
  let v591 : BitVec 32 := Scalar.muli v10 c4_i32_400
  let v592 : BitVec 32 := Scalar.addi c0_i32_401 v591
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_402 : BitVec 32 := 2#32
  let v593 : BitVec 32 := Scalar.muli v5 c2_i32_402
  let v594 : BitVec 32 := Scalar.addi v592 v593
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_403 : BitVec 32 := 1#32
  let v595 : BitVec 32 := Scalar.muli v8 c1_i32_403
  let v596 : BitVec 32 := Scalar.addi v594 v595
  v596.toNat
def k0_off2 (d0 : Dev nD) (c0_i32_406 : BitVec 32) : Fin 2 → Nat :=
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4096_i32_6 : BitVec 32 := 4096#32
  let v13 : BitVec 32 := Scalar.muli v12 c4096_i32_6
  let v603 : BitVec 32 := Scalar.addi v13 c0_i32_406
  let c0_i32_411 : BitVec 32 := 0#32
  ![v603.toNat, 0]
def k0_off3 (d0 : Dev nD) (c0_i32_432 : BitVec 32) : Fin 2 → Nat :=
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4096_i32_6 : BitVec 32 := 4096#32
  let v13 : BitVec 32 := Scalar.muli v12 c4096_i32_6
  let v631 : BitVec 32 := Scalar.addi v13 c0_i32_432
  let v632 : Index := Scalar.indexCast v631
  let c0 : Index := 0#32
  ![v632.toNat, 0]
def k0_off4 (d0 : Dev nD) (c0_i32_843 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v11 : BitVec 32 := Scalar.muli v2 c4096_i32
  let v1121 : BitVec 32 := Scalar.addi v11 c0_i32_843
  let v1122 : Index := Scalar.indexCast v1121
  let c0_844 : Index := 0#32
  ![v1122.toNat, 0]
abbrev stage0_0 : Fin 1 → Memref sig .tc .vmem S8192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16384x1024 : Shape := ⟨2, ![16384, 1024]⟩
abbrev S2x8192x1024 : Shape := ⟨3, ![2, 8192, 1024]⟩
abbrev S_ : Shape := ⟨0, ![]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8192x1024, .f32⟩
  | .hbm, ⟨2, _⟩ => ⟨S_, .f32⟩
  | .hbm, ⟨3, _⟩ => ⟨S8192x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Reference.lean ====
/-
  What the reference computes: the sum of the argument's upper and lower 8192 rows.
-/
module

public import proofs.«01_k».proof.Proof.Gen.ReferenceIdeal.Run
public import Idealize.ShloMosaic.Lib.Layout
public import Idealize.ShloMosaic.Lib.Pointwise
public import Idealize.ShloMosaic.Lib.IdealHost
public import Idealize.ShloMosaic.PureOps.Ideal.Laws

@[expose] public section

noncomputable section

namespace Cert.ReferenceIdealProof

open Cert.ReferenceIdeal Cert.ReferenceIdeal.Gen Idealize.ShloMosaic Idealize.ShloMosaic.TcCoe Idealize.SL.Sem

/-- The index of row `8192 h + i 0` of the argument. -/
def rowOf (h : Fin 2) (i : S8192x1024.Idx) : S16384x1024.Idx := fun
  | 0 => ⟨8192 * h.val + (i 0).val, by have h0 : (i 0).val < 8192 := (i 0).isLt; have := h.isLt; show _ < 16384; omega⟩
  | 1 => ⟨(i 1).val, (i 1).isLt⟩

/-- The sum of the two halves of `x`. -/
def total (x : S16384x1024.Idx → Elt Ideal .f32) : S8192x1024.Idx → Elt Ideal .f32 := fun i => (x (rowOf 0 i) + x (rowOf 1 i) : EReal)

/-- The reference's reduction of the reshaped argument is the sum of the two halves. -/
theorem reduce_eq (x : S16384x1024.Idx → Elt Ideal .f32) :
    Host.reduceAdd (F := Ideal) (shapeCast _ x shapeCasts_S16384x1024_S2x8192x1024) (constant S_ .f32 0x00000000#32)
      reducesTo_S2x8192x1024_S8192x1024_d0 h_S_ = total x := by
  funext i
  unfold total
  pointwise
  rw [Fin.sum_univ_two]
  have hr (h : Fin 2) (p : h.val * 8192 + (i 0).val < 16384) : (ix2 ⟨h.val * 8192 + (i 0).val, p⟩ (i 1) : S16384x1024.Idx) = rowOf h i := by
    funext a
    fin_cases a
    · exact Fin.ext (by show h.val * 8192 + (i 0).val = 8192 * h.val + (i 0).val; omega)
    · rfl
  exact congrArg₂ (fun a b : EReal => a + b) (congrArg x (hr 0 _)) (congrArg x (hr 1 _))

/-- The reference's run: its result is the sum of the two halves, and its argument is unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = total (m ((c.tc : Thread nD τ).loc main_arg0))
      ∧ r.2.mem ((c.tc : Thread nD τ).loc main_arg0) = m ((c.tc : Thread nD τ).loc main_arg0) :=
  (θ_run defs _ _).mono (fun _ h c => ⟨(h c).1.trans (reduce_eq _), (h c).2⟩) (Cert.ReferenceIdeal.Value.run m ρ)

end Cert.ReferenceIdealProof

end
-- ==== Proof.KernelIdeal.Program.lean ====
/-
  The kernel's body as a program of five loops.

  The printed body is straight-line: every loop over the sixteen chunks is written out. Here the
  same sequence is given once per step, with the chunk as a parameter, and the steps are folded over
  the list of chunks. `body_eq` states that the printed body is this program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdealProof

open Cert.KernelIdeal Cert.KernelIdeal.Gen
open Idealize.ShloMosaic Idealize.ShloMosaic.TcCoe Idealize.SL.Sem

variable {F : FTy → Type} [FloatOps F]

/-- The programs of one core. -/
abbrev P (F : FTy → Type) [FloatOps F] : Type 1 := Prog (TpuEff nD τ sig (Elt F) Λ₀ .tc) PUnit

/-! ## Buffers, chunks and semaphores -/

/-- The input block, in the large memory; -/
abbrev xM : Memref sig .tc .hbm S8192x1024 .f32 := Memref.whole main_arg0
/-- the result's buffer on the core; -/
abbrev oM : Memref sig .tc .vmem S8192x1024 .f32 := Memref.whole cc0_stg0_0
/-- the two chunks staged for the additions. -/
abbrev sM : Memref sig .tc .vmem S2x256x1024 .f32 := Memref.whole cc0_scratch0

/-- Chunk `k` of the half the device sends to its neighbour along `y`, as the kernel computes its place. -/
abbrev rect1 (d : Dev nD) (k : Fin 16) : Rect S8192x1024 :=
  Rect.unit (s := S8192x1024) (k0_off1 d (BitVec.ofNat 32 (256 * k.val))) S256x1024.size (k0_off1_inb d k)
/-- Chunk `k` of the other half, as the staging copies compute its place; -/
abbrev rect2 (d : Dev nD) (k : Fin 16) : Rect S8192x1024 :=
  Rect.unit (s := S8192x1024) (k0_off2 d (BitVec.ofNat 32 (256 * k.val))) S256x1024.size (k0_off2_inb d k)
/-- the same chunk, as the additions compute it; -/
abbrev rect3 (d : Dev nD) (k : Fin 16) : Rect S8192x1024 :=
  Rect.unit (s := S8192x1024) (k0_off3 d (BitVec.ofNat 32 (256 * k.val))) S256x1024.size (k0_off3_inb d k)
/-- and chunk `k` of the first half, as the additions compute it. -/
abbrev rect4 (d : Dev nD) (k : Fin 16) : Rect S8192x1024 :=
  Rect.unit (s := S8192x1024) (k0_off4 d (BitVec.ofNat 32 (256 * k.val))) S256x1024.size (k0_off4_inb d k)

theorem slot_inb (s : Fin 2) : ∀ a, (![s.val, 0, 0] : Fin 3 → ℕ) a + S1x256x1024.size a ≤ S2x256x1024.size a := by
  revert s; decide
/-- Staging slot `s`. -/
abbrev slotR (s : Fin 2) : Rect S2x256x1024 := Rect.unit (s := S2x256x1024) ![s.val, 0, 0] S1x256x1024.size (slot_inb s)
/-- Staging slot `s` as a chunk. -/
abbrev slotM (s : Fin 2) : Memref sig .tc .vmem S256x1024 .f32 :=
  (sM.slice (slotR s) (fun _ => rfl)).squeeze S256x1024 squeezes_S1x256x1024_S256x1024

/-- The semaphores: sending along `y`, receiving along `y`, sending along `x`, receiving along `x`, one
    per chunk, and the two of the staging copies. -/
abbrev ys (k : Fin 16) : DmaSem sig := ⟨1 + k.val, by have := k.isLt; show 1 + k.val < 67; omega⟩
abbrev yr (k : Fin 16) : DmaSem sig := ⟨17 + k.val, by have := k.isLt; show 17 + k.val < 67; omega⟩
abbrev xs (k : Fin 16) : DmaSem sig := ⟨33 + k.val, by have := k.isLt; show 33 + k.val < 67; omega⟩
abbrev xr (k : Fin 16) : DmaSem sig := ⟨49 + k.val, by have := k.isLt; show 49 + k.val < 67; omega⟩
abbrev cp (s : Fin 2) : DmaSem sig := ⟨65 + s.val, by have := s.isLt; show 65 + s.val < 67; omega⟩
/-- The barrier semaphore. -/
abbrev bar : Sem sig := (SemArray.scalar (sig.barrier 0 rfl) : Sems sig S_).sem

/-- The neighbours along `y` and along `x`, as the kernel computes them. -/
abbrev devY (d : Dev nD) : Dev nD := ⟨k0_dev3 d, k0_dev3_lt d⟩
abbrev devX (d : Dev nD) : Dev nD := ⟨k0_dev19 d, k0_dev19_lt d⟩

/-! ## The steps -/

/-- The core's chunk `k` starts for the neighbour along `y`, into the same rows of its result. -/
def stepSend (d : Dev nD) (k : Fin 16) (K : P F) : P F :=
  .op (.enqueueDma (xM.slice (rect1 d k) (fun _ => rfl))
    (.remote (Dev.tc (devY d)) (oM.slice (rect1 d k) (fun _ => rfl)) (.dma (ys k)))
    (.dma (yr k)) (View.wordExact_bits rfl) (View.wordExact_bits rfl) ⟨⟨rfl, Or.inl rfl⟩, trivial⟩) fun _ => K

/-- Chunk `k` has come from the neighbour along `y`, and goes on to the neighbour along `x`. -/
def stepForward (d : Dev nD) (k : Fin 16) (K : P F) : P F :=
  .op (.waitDma2 (yr k) (xM.slice (rect1 d k) (fun _ => rfl)) (oM.slice (rect1 d k) (fun _ => rfl)) (View.wordExact_bits rfl) (View.wordExact_bits rfl)) fun _ =>
  .op (.enqueueDma (oM.slice (rect1 d k) (fun _ => rfl))
    (.remote (Dev.tc (devX d)) (oM.slice (rect1 d k) (fun _ => rfl)) (.dma (xs k)))
    (.dma (xr k)) (View.wordExact_bits rfl) (View.wordExact_bits rfl) ⟨⟨rfl, Or.inl rfl⟩, trivial⟩) fun _ => K

/-- A chunk's offset inside the block. -/
abbrev InB (off : Fin 2 → ℕ) : Prop := ∀ a, off a + S256x1024.size a ≤ S8192x1024.size a

/-- The chunk of the core's own block at offset `off` starts for staging slot `s`. -/
def stepStage (off : Fin 2 → ℕ) (h : InB off) (s : Fin 2) (K : P F) : P F :=
  .op (.enqueueDma (xM.slice (Rect.unit (s := S8192x1024) off S256x1024.size h) (fun _ => rfl)) (.here (slotM s)) (.dma (cp s)) (View.wordExact_bits rfl)
    ((View.wordExact_bits rfl).reshape _ _) ⟨Or.inl rfl, trivial⟩) fun _ => K

/-- The chunk at offset `off` is finished: semaphore `q` is waited for (the chunk has come, or has been
    sent on), the staging copy into slot `s` is waited for, and the staged chunk is added in place. -/
def stepAdd (d : Dev nD) (k : Fin 16) (q : DmaSem sig) (off off' : Fin 2 → ℕ) (h : InB off) (h' : InB off') (s : Fin 2) (K : P F) : P F :=
  .op (.waitDma2 q (oM.slice (rect1 d k) (fun _ => rfl)) (oM.slice (rect1 d k) (fun _ => rfl)) (View.wordExact_bits rfl) (View.wordExact_bits rfl)) fun _ =>
  .op (.waitDma2 (cp s) (xM.slice (Rect.unit (s := S8192x1024) off' S256x1024.size h') (fun _ => rfl)) (slotM s) (View.wordExact_bits rfl)
    ((View.wordExact_bits rfl).reshape _ _)) fun _ =>
  .op (.load oM (Rect.unit (s := S8192x1024) off S256x1024.size h).toLoadRect (View.loadsAt_vmem h_S256x1024)) fun v =>
  .op (.load sM (slotR s).toLoadRect (View.loadsAt_vmem h_S1x256x1024)) fun w =>
  .op (.load oM (Rect.unit (s := S8192x1024) off S256x1024.size h).toLoadRect (View.loadsAt_vmem h_S256x1024)) fun _ =>
  .op (.store oM (Rect.unit (s := S8192x1024) off S256x1024.size h) (k0_pay1 v w) Finset.univ (View.stores_vmem_bits_univ h_S256x1024 rfl) (.inl rfl)) fun _ => K

/-- The send of chunk `k` along `y` has read its source. -/
def stepDrain (d : Dev nD) (k : Fin 16) (K : P F) : P F :=
  .op (.waitDma2 (ys k) (oM.slice (rect1 d k) (fun _ => rfl)) (xM.slice (rect1 d k) (fun _ => rfl)) (View.wordExact_bits rfl) (View.wordExact_bits rfl)) fun _ => K

/-! ## The body -/

/-- The sixteen chunks in order; -/
abbrev chunks : List (Fin 16) := [0, 1, 2, 3, 4, 5, 6, 7, 8, 9, 10, 11, 12, 13, 14, 15]
/-- the first fifteen of them, -/
abbrev chunks' : List (Fin 15) := [0, 1, 2, 3, 4, 5, 6, 7, 8, 9, 10, 11, 12, 13, 14]

/-- The staging slot of chunk `k`. -/
abbrev slotOf (k : Fin 16) : Fin 2 := ⟨k.val % 2, Nat.mod_lt _ (by decide)⟩

/-- Chunk `k` of the half that comes along `x`: finished; -/
abbrev addFar (d : Dev nD) (k : Fin 16) (K : P F) : P F :=
  stepAdd d k (xr k) (k0_off3 d (BitVec.ofNat 32 (256 * k.val))) (k0_off2 d (BitVec.ofNat 32 (256 * k.val))) (k0_off3_inb d k) (k0_off2_inb d k) (slotOf k) K
/-- and of the half that comes along `y`. -/
abbrev addNear (d : Dev nD) (k : Fin 16) (K : P F) : P F :=
  stepAdd d k (xs k) (k0_off4 d (BitVec.ofNat 32 (256 * k.val))) (k0_off1 d (BitVec.ofNat 32 (256 * k.val))) (k0_off4_inb d k) (k0_off1_inb d k) (slotOf k) K
abbrev stageFar (d : Dev nD) (k : Fin 16) (K : P F) : P F :=
  stepStage (k0_off2 d (BitVec.ofNat 32 (256 * k.val))) (k0_off2_inb d k) (slotOf k) K
abbrev stageNear (d : Dev nD) (k : Fin 16) (K : P F) : P F :=
  stepStage (k0_off1 d (BitVec.ofNat 32 (256 * k.val))) (k0_off1_inb d k) (slotOf k) K

/-- The last part: every send along `y` has read its source. -/
def tailDrain (d : Dev nD) : P F := chunks.foldr (stepDrain d) (.ret ⟨⟩)
/-- The half that came along `y`, each chunk's staging copy started before the chunk before it is finished. -/
def tailNear (d : Dev nD) : P F :=
  chunks'.foldr (fun k K => stageNear d k.succ (addNear d k.castSucc K)) (addNear d 15 (tailDrain d))
/-- The half that came along `x`, and then the other. -/
def tailFar (d : Dev nD) : P F :=
  stageFar d 0 (chunks'.foldr (fun k K => stageFar d k.succ (addFar d k.castSucc K)) (stageNear d 0 (addFar d 15 (tailNear d))))
/-- The chunks forwarded along `x`. -/
def tailForward (d : Dev nD) : P F := chunks.foldr (stepForward d) (tailFar d)
/-- The sends along `y`. -/
def tailSend (d : Dev nD) : P F := chunks.foldr (stepSend d) (tailForward d)

/-- The body: both neighbours are told that the core has begun, both are waited for, and the loops follow. -/
def program : P F :=
  .op .deviceId fun d =>
  .op (.semSignal (Dev.tc (⟨k0_dev1 d, k0_dev1_lt d⟩ : Dev nD)) bar (1#32).toInt) fun _ =>
  .op (.semSignal (Dev.tc (⟨k0_dev2 d, k0_dev2_lt d⟩ : Dev nD)) bar (1#32).toInt) fun _ =>
  .op (.semWait bar (2#32).toInt) fun _ => tailSend d

set_option maxRecDepth 65536 in
set_option maxHeartbeats 4000000 in
/-- The printed body is the program. -/
theorem body_eq : cc0_body (F := F) xM (Memref.isWhole_whole _) oM (Memref.isWhole_whole _) sM (Memref.isWhole_whole _)
    cc0_scratch1 cc0_scratch2 cc0_scratch3 cc0_scratch4 cc0_scratch5 = program := rfl

end Cert.KernelIdealProof

end
-- ==== Proof.KernelIdeal.Geometry.lean ====
/-
  Where the chunks lie.

  A device's block of 8192 rows is cut into thirty-two chunks of 256 rows. The device sends the chunks
  of one half (`near`) to its neighbour along `y`, and gets the chunks of the other half (`far`) from
  its neighbour along `x`. This module names the chunks by their number, relates them to the places
  the kernel computes, and states what a copy of a chunk and an addition on a chunk leave.
-/
module

public import proofs.«01_k».proof.Proof.KernelIdeal.Program
public import Idealize.ShloMosaic.Lib.Pipeline.Value

@[expose] public section

noncomputable section

namespace Cert.KernelIdealProof

open Cert.KernelIdeal Cert.KernelIdeal.Gen
open Idealize.ShloMosaic Idealize.ShloMosaic.TcCoe Idealize.SL.Sem

variable {F : FTy → Type} [FloatOps F]

/-! ## The neighbours -/

set_option backward.proofsInPublic true in
/-- The neighbour along `y`; -/
def yn (c : Dev nD) : Dev nD := ⟨(4 * (c.val / 4) + c.val % 2 + 2) - 2 * ((c.val / 2) % 2), by have := c.isLt; show _ < 8; have : c.val < 8 := c.isLt; omega⟩
set_option backward.proofsInPublic true in
/-- the neighbour along `x`. -/
def xn (c : Dev nD) : Dev nD := ⟨(2 * ((c.val / 2) % 2) + c.val % 2 + 4) - 4 * (c.val / 4), by have : c.val < 8 := c.isLt; show _ < 8; omega⟩

theorem yn_yn (c : Dev nD) : yn (yn c) = c := by revert c; decide
theorem xn_xn (c : Dev nD) : xn (xn c) = c := by revert c; decide
theorem yn_ne_xn (c : Dev nD) : yn c ≠ xn c := by revert c; decide
theorem yn_xn (c : Dev nD) : yn (xn c) = xn (yn c) := by revert c; decide

/-- Each neighbour relation as a permutation of the devices. -/
def ynE : Dev nD ≃ Dev nD := ⟨yn, yn, yn_yn, yn_yn⟩
def xnE : Dev nD ≃ Dev nD := ⟨xn, xn, xn_xn, xn_xn⟩

theorem dev1_eq (c : Dev nD) : (⟨k0_dev1 c, k0_dev1_lt c⟩ : Dev nD) = yn c := Fin.ext (k0_dev1_eq c)
theorem dev2_eq (c : Dev nD) : (⟨k0_dev2 c, k0_dev2_lt c⟩ : Dev nD) = xn c := Fin.ext (k0_dev2_eq c)
theorem devY_eq (c : Dev nD) : devY c = yn c := Fin.ext (k0_dev3_eq c)
theorem devX_eq (c : Dev nD) : devX c = xn c := Fin.ext (k0_dev19_eq c)

/-! ## The chunks -/

/-- The offset of chunk `q`. -/
abbrev coff (q : Fin 32) : Fin 2 → ℕ := ![256 * q.val, 0]

theorem coff_inb (q : Fin 32) : InB (coff q) := by revert q; decide

/-- Chunk `q` of a block; -/
abbrev chunkR (q : Fin 32) : Rect S8192x1024 := Rect.unit (s := S8192x1024) (coff q) S256x1024.size (coff_inb q)
/-- its elements; -/
abbrev rows (q : Fin 32) : Finset S8192x1024.Idx := (chunkR q).set
/-- the chunk of the input, -/
abbrev xC (q : Fin 32) : Memref sig .tc .hbm S256x1024 .f32 := xM.slice (chunkR q) (fun _ => rfl)
/-- and of the result. -/
abbrev oC (q : Fin 32) : Memref sig .tc .vmem S256x1024 .f32 := oM.slice (chunkR q) (fun _ => rfl)

/-- Chunk `k` of the half the device sends along `y`, -/
def near (c : Dev nD) (k : Fin 16) : Fin 32 := ⟨16 * (c.val / 4) + k.val, by have : c.val < 8 := c.isLt; have := k.isLt; omega⟩
/-- and of the other half. -/
def far (c : Dev nD) (k : Fin 16) : Fin 32 := ⟨(16 + k.val) - 16 * (c.val / 4), by have : c.val < 8 := c.isLt; have := k.isLt; omega⟩

theorem near_yn (c : Dev nD) (k : Fin 16) : near (yn c) k = near c k := by
  revert c k; decide
theorem near_xn (c : Dev nD) (k : Fin 16) : near (xn c) k = far c k := by
  revert c k; decide
theorem far_yn (c : Dev nD) (k : Fin 16) : far (yn c) k = far c k := by
  revert c k; decide
theorem far_xn (c : Dev nD) (k : Fin 16) : far (xn c) k = near c k := by
  revert c k; decide

theorem off_near (c : Dev nD) (k : Fin 16) : (![4096 * (c.val / 4) + 256 * k.val, 0] : Fin 2 → ℕ) = coff (near c k) := by
  show _ = ![256 * (16 * (c.val / 4) + k.val), 0]
  rw [show 256 * (16 * (c.val / 4) + k.val) = 4096 * (c.val / 4) + 256 * k.val by omega]
theorem off_far (c : Dev nD) (k : Fin 16) : (![(256 * k.val + 4096) - 4096 * (c.val / 4), 0] : Fin 2 → ℕ) = coff (far c k) := by
  show _ = ![256 * ((16 + k.val) - 16 * (c.val / 4)), 0]
  rw [show 256 * ((16 + k.val) - 16 * (c.val / 4)) = (256 * k.val + 4096) - 4096 * (c.val / 4) by have : c.val < 8 := c.isLt; omega]

/-- The four places the kernel computes are these chunks. -/
theorem off1_eq (c : Dev nD) (k : Fin 16) : k0_off1 c (BitVec.ofNat 32 (256 * k.val)) = coff (near c k) := (k0_off1_eq c k).trans (off_near c k)
theorem off2_eq (c : Dev nD) (k : Fin 16) : k0_off2 c (BitVec.ofNat 32 (256 * k.val)) = coff (far c k) := (k0_off2_eq c k).trans (off_far c k)
theorem off3_eq (c : Dev nD) (k : Fin 16) : k0_off3 c (BitVec.ofNat 32 (256 * k.val)) = coff (far c k) := (k0_off3_eq c k).trans (off_far c k)
theorem off4_eq (c : Dev nD) (k : Fin 16) : k0_off4 c (BitVec.ofNat 32 (256 * k.val)) = coff (near c k) := (k0_off4_eq c k).trans (off_near c k)

/-- An element lies in chunk `q` iff its row does. -/
theorem mem_rows (q : Fin 32) (i : S8192x1024.Idx) : i ∈ rows q ↔ (i 0).val / 256 = q.val := by
  have h0 : (i 0).val < 8192 := (i 0).isLt
  have h1 : (i 1).val < 1024 := (i 1).isLt
  rw [show (i ∈ rows q) ↔ ∀ a : Fin 2, coff q a ≤ (i a).val ∧ (i a).val < coff q a + S256x1024.size a from Rect.mem_set_unit]
  rw [Fin.forall_fin_two]
  show (256 * q.val ≤ (i 0).val ∧ (i 0).val < 256 * q.val + 256) ∧ (0 ≤ (i 1).val ∧ (i 1).val < 0 + 1024) ↔ _
  omega

theorem rows_disjoint {q q' : Fin 32} (h : q ≠ q') : Disjoint (rows q) (rows q') :=
  Finset.disjoint_left.mpr fun i hi hi' => h (Fin.ext (((mem_rows q i).mp hi).symm.trans ((mem_rows q' i).mp hi')))

/-- The chunks of a device's two halves, together. -/
def half (c : Dev nD) : Fin 16 ⊕ Fin 16 → Fin 32 := Sum.elim (near c) (far c)

theorem half_injective (c : Dev nD) : Function.Injective (half c) := by
  rintro (k | k) (k' | k') h <;> have h := congrArg Fin.val h <;> have : c.val < 8 := c.isLt <;> have := k.isLt <;> have := k'.isLt <;>
    simp only [half, Sum.elim_inl, Sum.elim_inr, near, far] at h
  · exact congrArg _ (Fin.ext (by omega))
  · omega
  · omega
  · exact congrArg _ (Fin.ext (by omega))

theorem half_surjective (c : Dev nD) (q : Fin 32) : ∃ t, half c t = q := by
  revert c q; decide

/-- The chunks of the two halves make the whole block. -/
theorem rows_cover (c : Dev nD) : Finset.univ.biUnion (fun t => rows (half c t)) = (Finset.univ : Finset S8192x1024.Idx) := by
  ext i
  simp only [Finset.mem_biUnion, Finset.mem_univ, true_and, iff_true]
  have h0 : (i 0).val < 8192 := (i 0).isLt
  obtain ⟨t, ht⟩ := half_surjective c ⟨(i 0).val / 256, by omega⟩
  exact ⟨t, by rw [ht]; exact (mem_rows _ i).mpr rfl⟩

theorem half_disjoint (c : Dev nD) : ∀ t ∈ (Finset.univ : Finset (Fin 16 ⊕ Fin 16)), ∀ t' ∈ (Finset.univ : Finset (Fin 16 ⊕ Fin 16)), t ≠ t' →
    Disjoint (rows (half c t)) (rows (half c t')) :=
  fun t _ t' _ h => rows_disjoint fun e => h (half_injective c e)

theorem xC_set (q : Fin 32) : (xC q).view.set = rows q := View.set_slice_whole _ _
theorem oC_set (q : Fin 32) : (oC q).view.set = rows q := View.set_slice_whole _ _

/-! ## The amount a chunk's copy signals -/

/-- A chunk's bytes, as a copy signals them. -/
abbrev N : ℕ := (oC 0).view.dmaCredit
theorem N_pos : 0 < N := View.dmaCredit_pos _ (by decide)
theorem credit_o (q : Fin 32) : (oC q).view.dmaCredit = N := rfl
theorem credit_x (q : Fin 32) : (xC q).view.dmaCredit = N := rfl
theorem credit_slot (s : Fin 2) : (slotM s).view.dmaCredit = N := rfl

/-! ## Contents -/

/-- The contents of a block. -/
abbrev Block (F : FTy → Type) [FloatOps F] : Type := S8192x1024.Idx → Elt F .f32
/-- The contents of the staging buffer. -/
abbrev Slots (F : FTy → Type) [FloatOps F] : Type := S2x256x1024.Idx → Elt F .f32

/-- A chunk copied from a block into the same rows of the result is there as it was in the block. -/
theorem landed_x (q : Fin 32) (fd f : Block F) (i : S8192x1024.Idx) (hi : i ∈ rows q) :
    (oC q).view.write (Elt F) fd ((xC q).view.read (Elt F) f) Finset.univ i = f i := by
  rw [← oC_set] at hi
  obtain ⟨j, -, rfl⟩ := Finset.mem_map.mp hi
  rw [View.write_emb_of_mem _ _ (Finset.mem_univ j)]
  rfl

/-- The same of a chunk copied from another device's result. -/
theorem landed_o (q : Fin 32) (fd f : Block F) (i : S8192x1024.Idx) (hi : i ∈ rows q) :
    (oC q).view.write (Elt F) fd ((oC q).view.read (Elt F) f) Finset.univ i = f i := by
  rw [← oC_set] at hi
  obtain ⟨j, -, rfl⟩ := Finset.mem_map.mp hi
  rw [View.write_emb_of_mem _ _ (Finset.mem_univ j)]
  rfl

/-- Slot `s` with chunk `q` of the block `f` copied into it. -/
def staged (q : Fin 32) (s : Fin 2) (f : Block F) (fd : Slots F) : Slots F :=
  (slotM s).view.write (Elt F) fd ((xC q).view.read (Elt F) f) Finset.univ

theorem slot_set (s : Fin 2) : (slotM s).view.set = (slotR s).set :=
  (View.set_reshape _ _).trans (View.set_slice_whole _ _)

/-- The staged chunk as the addition reads it. -/
theorem read_staged (q : Fin 32) (s : Fin 2) (f : Block F) (fd : Slots F) :
    shapeCast S256x1024 (sM.view.readAt (Elt F) (slotR s).toLoadRect (staged q s f fd)) shapeCasts_S1x256x1024_S256x1024 = (xC q).view.read (Elt F) f :=
  (show _ = (slotM s).view.read (Elt F) (staged q s f fd) from rfl).trans (View.read_write_univ _ _)

/-- The sum of two blocks, element by element. -/
abbrev sum (f g : Block F) : Block F := addf (F := F) (s := S8192x1024) (φ := .f32) f g

/-- The addition on chunk `q`, the staged chunk coming from the block `g`, leaves the two blocks' sum there. -/
theorem added (q : Fin 32) (s : Fin 2) (f g : Block F) (fd : Slots F) (i : S8192x1024.Idx) (hi : i ∈ rows q) :
    (oM.access (chunkR q)).write (Elt F) f
      (k0_pay1 (oM.view.readAt (Elt F) (chunkR q).toLoadRect f) (sM.view.readAt (Elt F) (slotR s).toLoadRect (staged q s g fd))) Finset.univ i
      = sum f g i := by
  rw [← oC_set] at hi
  obtain ⟨j, -, rfl⟩ := Finset.mem_map.mp hi
  refine (View.write_emb_of_mem (v := (oC q).view) f _ (Finset.mem_univ j)).trans ?_
  unfold k0_pay1
  rw [read_staged, shapeCast_self]
  rfl

end Cert.KernelIdealProof

end
-- ==== Proof.KernelIdeal.Protocol.lean ====
/-
  The protocol: what each semaphore stands for.

  Every device has sixty-seven semaphores: the barrier, one per chunk for each end of each of the two
  exchanges, and two for the staging copies. For each, the schedule says which rounds it has, how much a
  round signals, and what a round hands to the waiting device: the rows of a buffer, with their contents.
-/
module

public import proofs.«01_k».proof.Proof.KernelIdeal.Geometry
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's rounds and the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The kernel's own semaphores: sent along `y`, received along `y`, sent along `x`, received along `x`, per
    chunk; and the two staging slots'. -/
abbrev Own : Type := Fin 16 ⊕ (Fin 16 ⊕ (Fin 16 ⊕ (Fin 16 ⊕ Fin 2)))
/-- With the barrier. -/
abbrev Ix : Type := Unit ⊕ Own

instance : DecidableEq Ix := inferInstance
instance : DecidableEq (Dev nD × Ix) := inferInstance

abbrev iBar : Ix := .inl ()
abbrev iYs (k : Fin 16) : Ix := .inr (.inl k)
abbrev iYr (k : Fin 16) : Ix := .inr (.inr (.inl k))
abbrev iXs (k : Fin 16) : Ix := .inr (.inr (.inr (.inl k)))
abbrev iXr (k : Fin 16) : Ix := .inr (.inr (.inr (.inr (.inl k))))
abbrev iCp (s : Fin 2) : Ix := .inr (.inr (.inr (.inr (.inr s))))

/-- Which DMA semaphore each is. -/
def ownDma : Own → DmaSem sig
  | .inl k => ys k
  | .inr (.inl k) => yr k
  | .inr (.inr (.inl k)) => xs k
  | .inr (.inr (.inr (.inl k))) => xr k
  | .inr (.inr (.inr (.inr s))) => cp s

def osem (o : Own) : SemLoc sig := .dma (ownDma o)
def csem : Ix → SemLoc sig
  | .inl _ => .reg bar
  | .inr o => osem o

theorem ownDma_injective : Function.Injective ownDma := by
  rintro (k | k | k | k | k) (k' | k' | k' | k' | k') h <;>
    have h := congrArg Fin.val h <;> have h1 := k.isLt <;> have h2 := k'.isLt <;>
    simp only [ownDma] at h <;> first
      | (exfalso; omega)
      | (have : k = k' := Fin.ext (by omega)
         subst this; rfl)

theorem csem_injective : Function.Injective csem := by
  rintro (u | o) (u' | o') h
  · rfl
  · cases h
  · cases h
  · exact congrArg Sum.inr (ownDma_injective (SemLoc.dma.inj h))

/-- Semaphore `i` of device `c`. -/
abbrev cell (c : Dev nD) (i : Ix) : GSem nD τ sig := ((c : Thread nD τ), csem i)

theorem cell_injective : Function.Injective (fun ci : Dev nD × Ix => cell ci.1 ci.2) := by
  rintro ⟨c, i⟩ ⟨c', i'⟩ h
  have h1 : c = c' := congrArg (fun g : GSem nD τ sig => g.1.1) h
  have h2 : i = i' := csem_injective (congrArg Prod.snd h)
  rw [h1, h2]

open Classical in
/-- The semaphore a location is, if it is one of these. -/
def decode (sm : SemLoc sig) : Option Ix := if h : ∃ i, csem i = sm then some h.choose else none

theorem decode_csem (i : Ix) : decode (csem i) = some i := by
  have h : ∃ j, csem j = csem i := ⟨i, rfl⟩
  unfold decode
  rw [dif_pos h]
  exact congrArg some (csem_injective h.choose_spec)

/-! ## The rows of the buffers -/

/-- The block device `c` starts with. -/
def xval (c : Dev nD) : Block F := m ((c : Thread nD τ).loc main_arg0)

/-- Chunk `q` of device `c`'s block, held at share `sh`; -/
def xPts (c : Dev nD) (q : Fin 32) (sh : PosShare TreeShare) : sProp 𝕄 :=
  ((c : Thread nD τ).loc main_arg0) ↦[rows q]{sh} (xval m c : Buf (Elt F) ((c : Thread nD τ).loc main_arg0))
/-- chunk `q` of its result, with contents `f`; -/
def oPts (c : Dev nD) (q : Fin 32) (f : Block F) : sProp 𝕄 :=
  ((c : Thread nD τ).loc cc0_stg0_0) ↦[rows q]{fullShare} (f : Buf (Elt F) ((c : Thread nD τ).loc cc0_stg0_0))
/-- its staging slot `s`, with contents `f`. -/
def sPts (c : Dev nD) (s : Fin 2) (f : Slots F) : sProp 𝕄 :=
  ((c : Thread nD τ).loc cc0_scratch0) ↦[(slotR s).set]{fullShare} (f : Buf (Elt F) ((c : Thread nD τ).loc cc0_scratch0))

/-- The share of the block the sends read through, and the one the staging copies read through. -/
abbrev shL : PosShare TreeShare := fullShare.left
abbrev shR : PosShare TreeShare := fullShare.right

instance xPts_storable (c : Dev nD) (q : Fin 32) (sh : PosShare TreeShare) : BI.Storable (upEmb : UEmb _ 𝕄) (xPts m c q sh) := by unfold xPts; infer_instance
omit [FloatOps F] in
instance oPts_storable [FloatOps F] (c : Dev nD) (q : Fin 32) (f : Block F) : BI.Storable (upEmb : UEmb _ 𝕄) (oPts c q f) := by unfold oPts; infer_instance
instance sPts_storable (c : Dev nD) (s : Fin 2) (f : Slots F) : BI.Storable (upEmb : UEmb _ 𝕄) (sPts c s f) := by unfold sPts; infer_instance

/-- Only the contents on the chunk's rows matter. -/
theorem oPts_congr (c : Dev nD) (q : Fin 32) {f g : Block F} (h : ∀ i ∈ rows q, f i = g i) : oPts c q f = oPts c q g := pointsTo_congr h

/-! ## What the rounds hand over -/

/-- The chunk staged by round `r` of slot `s`: the far half's in the first eight rounds, then the near half's. -/
def seqOf (c : Dev nD) (s : Fin 2) (r : ℕ) : Fin 32 :=
  if h : 2 * r + s.val < 16 then far c ⟨2 * r + s.val, h⟩
  else near c ⟨(2 * r + s.val) % 16, Nat.mod_lt _ (by decide)⟩

theorem seqOf_far (c : Dev nD) (k : Fin 16) : seqOf c (slotOf k) (k.val / 2) = far c k := by
  have hk : 2 * (k.val / 2) + k.val % 2 = k.val := by omega
  have hlt : 2 * (k.val / 2) + (slotOf k).val < 16 := by show 2 * (k.val / 2) + k.val % 2 < 16; have := k.isLt; omega
  unfold seqOf
  rw [dif_pos hlt]
  exact congrArg (far c) (Fin.ext hk)
theorem seqOf_near (c : Dev nD) (k : Fin 16) : seqOf c (slotOf k) (8 + k.val / 2) = near c k := by
  have hk := k.isLt
  have hlt : ¬ 2 * (8 + k.val / 2) + (slotOf k).val < 16 := by show ¬ 2 * (8 + k.val / 2) + k.val % 2 < 16; omega
  unfold seqOf
  rw [dif_neg hlt]
  exact congrArg (near c) (Fin.ext (by show (2 * (8 + k.val / 2) + k.val % 2) % 16 = k.val; omega))

/-- The rows of device `b`'s result that device `c` writes: the chunks of `c`'s near half, with any contents. -/
def landing (c b : Dev nD) : sProp 𝕄 := bigSep Finset.univ fun k : Fin 16 => iprop(∃ f : Block F, oPts b (near c k) f)

/-- What device `c` gets from duty `d` of round `r` of its semaphore `i`: from the barrier, the landing rows of the
    neighbour that signalled; from a send, its source; from a receive, the chunk that has come; from a staging copy,
    the chunk it read and the slot holding it. -/
def pay (c : Dev nD) (r : ℕ) (d : Bool) : Ix → sProp 𝕄
  | .inl _ => landing (F := F) c (if d then xn c else yn c)
  | .inr (.inl k) => xPts m c (near c k) shL
  | .inr (.inr (.inl k)) => oPts c (near c k) (xval m (yn c))
  | .inr (.inr (.inr (.inl k))) => oPts c (near c k) (xval m (yn c))
  | .inr (.inr (.inr (.inr (.inl k)))) => oPts c (far c k) (xval m (yn (xn c)))
  | .inr (.inr (.inr (.inr (.inr s)))) => iprop(xPts m c (seqOf c s r) shR ∗ ∃ fd : Slots F, sPts c s (staged (seqOf c s r) s (xval m c) fd))

instance pay_storable (c : Dev nD) (r : ℕ) (d : Bool) (i : Ix) : BI.Storable (upEmb : UEmb _ 𝕄) (pay m c r d i) := by
  rcases i with _ | _ | _ | _ | _ | _ <;> unfold pay <;> (try unfold landing) <;> infer_instance

/-- The duties of round `r`: two at the barrier, in its one round; one in the one round of a send or a receive; and one in each of the
    sixteen rounds of a staging slot. -/
def dutiesOf (r : ℕ) : Ix → Finset Bool
  | .inl _ => if r = 0 then Finset.univ else ∅
  | .inr (.inl _) | .inr (.inr (.inl _)) | .inr (.inr (.inr (.inl _))) | .inr (.inr (.inr (.inr (.inl _)))) => if r = 0 then {false} else ∅
  | .inr (.inr (.inr (.inr (.inr _)))) => if r < 16 then {false} else ∅

/-- How much a duty signals: one at the barrier, else a chunk's bytes. -/
def amountOf : Ix → ℕ
  | .inl _ => 1
  | .inr _ => N

theorem amountOf_pos (i : Ix) : 0 < amountOf i := by
  rcases i with _ | _
  · exact Nat.one_pos
  · exact N_pos

/-- The schedule of every semaphore of every device. -/
def Rd : Rounds.Schedule (GSem nD τ sig) Bool 𝕄 where
  duties g r := if g.1.2 = .tc then (decode g.2).elim ∅ (dutiesOf r) else ∅
  unitless _ := False
  amount g _ _ := (decode g.2).elim 1 amountOf
  payload g r d := (decode g.2).elim iprop(emp) (pay m g.1.1 r d)
  amount_pos g _ _ _ := by
    cases h : decode g.2 with
    | none => exact Nat.one_pos
    | some i => exact amountOf_pos i

instance Rd_payload_storable (g : GSem nD τ sig) (r : ℕ) (d : Bool) : BI.Storable (upEmb : UEmb _ 𝕄) ((Rd m).payload g r d) := by
  show BI.Storable upEmb ((decode g.2).elim iprop(emp) (pay m g.1.1 r d))
  cases decode g.2 with
  | none => exact inferInstanceAs (BI.Storable upEmb iprop(emp))
  | some i => exact pay_storable m g.1.1 r d i

/-! ## The schedule at a cell -/

variable (c : Dev nD) (i : Ix)

theorem duties_cell (r : ℕ) : (Rd m).duties (cell c i) r = dutiesOf r i := by
  dsimp only [Rd]
  rw [if_pos rfl]
  show (decode (csem i)).elim ∅ (dutiesOf r) = _
  rw [decode_csem]; rfl

theorem amount_cell (r : ℕ) (d : Bool) : (Rd m).amount (cell c i) r d = amountOf i := by
  show (decode (csem i)).elim 1 amountOf = _
  rw [decode_csem]; rfl

theorem payload_cell (r : ℕ) (d : Bool) : (Rd m).payload (cell c i) r d = pay m c r d i := by
  show (decode (csem i)).elim iprop(emp) (pay m c r d) = _
  rw [decode_csem]; rfl

/-- The barrier's round takes two units. -/
theorem expect_bar : (Rd m).expect (cell c iBar) 0 = 2 := by
  unfold Schedule.expect Schedule.amountOf
  rw [duties_cell, Finset.sum_congr rfl fun d _ => amount_cell m c iBar 0 d]
  rfl

/-- What a barrier's round hands over: the landing rows of both neighbours. -/
theorem rest_bar : bigSep ((Rd m).duties (cell c iBar) 0 \ ∅) (fun d => (Rd m).payload (cell c iBar) 0 d)
    = iprop(landing (F := F) c (yn c) ∗ landing (F := F) c (xn c)) := by
  rw [Finset.sdiff_empty, duties_cell, show dutiesOf 0 iBar = Finset.univ from rfl,
    bigSep_univ_eq_bigSepL [false, true] (by decide) (by decide), bigSepL_cons_cons, bigSepL_singleton, payload_cell, payload_cell]
  rfl

/-- A round with the one duty takes the duty's amount, -/
theorem expect_one {r : ℕ} (h : dutiesOf r i = {false}) : (Rd m).expect (cell c i) r = amountOf i := by
  unfold Schedule.expect Schedule.amountOf
  rw [duties_cell, h, Finset.sum_singleton, amount_cell]

/-- and hands over the duty's payload. -/
theorem rest_one {r : ℕ} (h : dutiesOf r i = {false}) :
    bigSep ((Rd m).duties (cell c i) r \ ∅) (fun d => (Rd m).payload (cell c i) r d) = pay m c r false i := by
  rw [Finset.sdiff_empty, duties_cell, h, bigSep_singleton, payload_cell]

/-- The number of rounds of a semaphore. -/
def roundsOf : Ix → ℕ
  | .inr (.inr (.inr (.inr (.inr _)))) => 16
  | _ => 1

theorem duties_later (r : ℕ) (h : roundsOf i ≤ r) : (Rd m).duties (cell c i) r = ∅ := by
  rw [duties_cell]
  rcases i with _ | _ | _ | _ | _ | _ <;> simp only [roundsOf] at h <;> simp only [dutiesOf] <;> exact if_neg (by omega)

/-! ## What is owed, and the order of the waits -/

/-- What a device owes when its body starts: a unit to each neighbour's barrier, and each chunk to the receive semaphore of the
    neighbour it goes to. -/
def owedX (c : Dev nD) (l : List (Fin 16)) : CellTallies nD τ sig Unit := l.foldr (fun k O => O + tallyAt (cell (xn c) (iXr k)) () N) 0
def owedY (c : Dev nD) (l : List (Fin 16)) : CellTallies nD τ sig Unit := l.foldr (fun k O => O + tallyAt (cell (yn c) (iYr k)) () N) (owedX c chunks)
def owed1 (c : Dev nD) : CellTallies nD τ sig Unit := owedY c chunks + tallyAt (cell (xn c) iBar) () 1
def owed0 (c : Dev nD) : CellTallies nD τ sig Unit := owed1 c + tallyAt (cell (yn c) iBar) () 1

/-- The level of a semaphore: the barrier, then what is received along `y`, then what is received along `x`; the others
    below. -/
def levelOf : Ix → ℕ
  | .inl _ => 1
  | .inr (.inr (.inl _)) => 2
  | .inr (.inr (.inr (.inr (.inl _)))) => 3
  | _ => 0

def L (g : GSem nD τ sig) : Finset Unit := if g.1.2 = .tc then {()} else ∅
def lv (g : GSem nD τ sig) (_ : Unit) : ℕ := (decode g.2).elim 0 levelOf

theorem L_of_ne (g : GSem nD τ sig) (h : g.1.2 ≠ .tc) : L g = ∅ := if_neg h
theorem L_tc (c : Dev nD) (sm : SemLoc sig) : () ∈ L ((c : Thread nD τ), sm) := by
  unfold L; rw [if_pos rfl]; exact Finset.mem_singleton_self _
theorem lv_cell (c : Dev nD) (i : Ix) : lv (cell c i) () = levelOf i := by
  unfold lv; rw [decode_csem]; rfl

/-- Where a device owes something along `x`, it is to a receive semaphore of the neighbour along `x`; -/
theorem owedX_pos {c : Dev nD} {l : List (Fin 16)} {g : GSem nD τ sig} {u : Unit} (h : 0 < owedX c l g u) : ∃ k, g = cell (xn c) (iXr k) := by
  induction l with
  | nil => exact absurd h (Nat.lt_irrefl 0)
  | cons k l ih =>
    rcases Pipeline.add_pos_cases (D₁ := owedX c l) h with h | h
    · exact ih h
    · exact ⟨k, (Pipeline.tallyAt_pos h).1⟩
/-- and along both, to one of either neighbour's. -/
theorem owedY_pos {c : Dev nD} {l : List (Fin 16)} {g : GSem nD τ sig} {u : Unit} (h : 0 < owedY c l g u) :
    (∃ k, g = cell (xn c) (iXr k)) ∨ ∃ k, g = cell (yn c) (iYr k) := by
  induction l with
  | nil => exact .inl (owedX_pos (l := chunks) h)
  | cons k l ih =>
    rcases Pipeline.add_pos_cases (D₁ := owedY c l) h with h | h
    · exact ih h
    · exact .inr ⟨k, (Pipeline.tallyAt_pos h).1⟩
/-- All of it is at level one or above. -/
theorem owed0_pos {c : Dev nD} {g : GSem nD τ sig} {u : Unit} (h : 0 < owed0 c g u) : ∃ d i, g = cell d i ∧ 0 < levelOf i := by
  rcases Pipeline.add_pos_cases (D₁ := owed1 c) h with h | h
  · rcases Pipeline.add_pos_cases (D₁ := owedY c chunks) h with h | h
    · rcases owedY_pos h with ⟨k, h⟩ | ⟨k, h⟩
      · exact ⟨_, _, h, (by decide : 0 < 3)⟩
      · exact ⟨_, _, h, (by decide : 0 < 2)⟩
    · exact ⟨_, _, (Pipeline.tallyAt_pos h).1, Nat.one_pos⟩
  · exact ⟨_, _, (Pipeline.tallyAt_pos h).1, Nat.one_pos⟩

/-- The wait at the barrier is below everything still owed then; -/
theorem mayWait_bar : (levAts L lv : sProp 𝕄) ⊢ MayWait (c : Thread nD τ) (csem iBar) () (owedY c chunks) :=
  Pipeline.mayWait_of_levAts (L_tc c _) fun g u h => by
    rcases owedY_pos h with ⟨k, rfl⟩ | ⟨k, rfl⟩
    · exact ⟨L_tc _ _, by rw [lv_cell, lv_cell]; exact (by decide : 1 < 3)⟩
    · exact ⟨L_tc _ _, by rw [lv_cell, lv_cell]; exact (by decide : 1 < 2)⟩

/-- and so is the wait for a chunk along `y`. -/
theorem mayWait_yr (k : Fin 16) (l : List (Fin 16)) : (levAts L lv : sProp 𝕄) ⊢ MayWait (c : Thread nD τ) (csem (iYr k)) () (owedX c l) :=
  Pipeline.mayWait_of_levAts (L_tc c _) fun g u h => by
    obtain ⟨k', rfl⟩ := owedX_pos h
    exact ⟨L_tc _ _, by rw [lv_cell, lv_cell]; exact (by decide : 2 < 3)⟩

end Cert.KernelIdealProof

end
-- ==== Proof.KernelIdeal.Steps.lean ====
/-
  The steps of the body, one by one.

  Each theorem says what a step needs, what it leaves, and that the rest of the program then runs from there.
  All are stated for any chunk.
-/
module

public import proofs.«01_k».proof.Proof.KernelIdeal.Protocol

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-- The program `p` runs on core `c` to a state where `Q` holds. -/
abbrev runs (c : Dev nD) (p : P F) (Q : PUnit → sProp 𝕄) : sProp 𝕄 :=
  wp frame (wpE (defs₀ (F := F)) 𝒱₀ (c : Thread nD τ) none) Set.univ p Q

/-! ## What every step may use -/

/-- Every semaphore of every device follows the schedule, and has reached its first round; and the order of the waits. -/
def ctx (K : Dev nD × Ix → ℕ) : sProp 𝕄 :=
  iprop((bigSep Finset.univ fun ci : Dev nD × Ix => cellInv ER (Rd m) (K ci) (cell ci.1 ci.2))
    ∗ (bigSep Finset.univ fun ci : Dev nD × Ix => reached ER (cell ci.1 ci.2) 0) ∗ levAts L lv)

instance ctx_persistent (K : Dev nD × Ix → ℕ) : BI.Persistent (ctx m K) := by unfold ctx; infer_instance

variable (K : Dev nD × Ix → ℕ)

theorem ctx_inv (c : Dev nD) (i : Ix) : ctx m K ⊢ cellInv ER (Rd m) (K (c, i)) (cell c i) := by
  unfold ctx
  iintro ⟨H, -, -⟩
  iapply (show (bigSep Finset.univ fun ci : Dev nD × Ix => (cellInv ER (Rd m) (K ci) (cell ci.1 ci.2) : sProp 𝕄)) ⊢ cellInv ER (Rd m) (K (c, i)) (cell c i)
    from bigSep_elim (Finset.mem_univ (c, i)))
  iexact H
theorem ctx_reached (c : Dev nD) (i : Ix) : ctx m K ⊢ (reached ER (cell c i) 0 : sProp 𝕄) := by
  unfold ctx
  iintro ⟨-, H, -⟩
  iapply (show (bigSep Finset.univ fun ci : Dev nD × Ix => (reached ER (cell ci.1 ci.2) 0 : sProp 𝕄)) ⊢ reached ER (cell c i) 0
    from bigSep_elim (Finset.mem_univ (c, i)))
  iexact H
theorem ctx_lev : ctx m K ⊢ (levAts L lv : sProp 𝕄) := by
  unfold ctx
  iintro ⟨-, -, H⟩
  iexact H

/-- Device `c` owes `O`. -/
def owing (c : Dev nD) (O : CellTallies nD τ sig Unit) : sProp 𝕄 := iprop(∃ W, owes (c : Thread nD τ) O W)

/-! ## Waiting for a chunk -/

/-- A wait for the one round of a receive or a send semaphore: what the round hands over comes, and the semaphore
    has passed its round. -/
theorem wp_waitOne (c : Dev nD) (i : Ix) (q : DmaSem sig) (hq : csem i = .dma q) (r : ℕ) (hr : dutiesOf r i = {false}) (ha : amountOf i = N)
    (O : CellTallies nD τ sig Unit) (hO : (levAts L lv : sProp 𝕄) ⊢ MayWait (c : Thread nD τ) (csem i) () O)
    {sp sp' : Space} {s s' : Shape} {e e' : EltTy} {src : Memref sig .tc sp' s' e'} {dst : Memref sig .tc sp s e}
    {hsrc : src.view.WordExact} {hdst : dst.view.WordExact} (hN : dst.view.dmaCredit = N) (k : PUnit → P F) (Q : PUnit → sProp 𝕄) :
    iprop(ctx m K ∗ cred (tallyAt (cell c i) () N) ∗ atPos ER (cell c i) r ∅ 0 ∗ owing c O
        ∗ ((pay m c r false i ∗ atPos ER (cell c i) (r + 1) ∅ 0 ∗ reached ER (cell c i) (r + 1) ∗ owing c O) -∗ runs c (k ⟨⟩) Q))
      ⊢ runs c (.op (.waitDma2 q src dst hsrc hdst) k) Q := by
  unfold owing
  iintro ⟨#Hctx, Hc, Ha, ⟨%W, Ho⟩, Hk⟩
  have hq' : cell c i = ((c : Thread nD τ), SemLoc.dma q) := by unfold cell; rw [hq]
  have key := Rounds.wp_wait_rest_token 𝒱₀ ER (Rd m) (c : Thread nD τ) none (κ := K (c, i)) (defs := defs₀ (F := F)) (Γ := .empty)
      (w := .waitDma2 q src dst hsrc hdst) (Q := Q) (k := k) (k' := dst.view.dmaCredit)
      (wpE_waitDma2_eq 𝒱₀ (c : Thread nD τ) none Set.univ) (Set.mem_univ _) () (O := O) (W := W) (R := r) (m := 0) (T := ∅)
      (by rw [← hq', expect_one m c i hr, ha, hN, Nat.zero_add])
  rw [hN, ← hq] at key
  iapply key $$ [Hc Ho Ha]
  · isplitr; · iapply (ctx_inv m K c i); iexact Hctx
    isplitl [Hc]; · iexact Hc
    isplitl [Ho]; · iexact Ho
    isplitr; · iapply hO; iapply (ctx_lev m K); iexact Hctx
    iexact Ha
  iintro ⟨Ho, Ha, Hr, Hp⟩
  ihave Hp' := (Entails.of_eq (rest_one m c i hr)) $$ Hp
  iapply Hk
  isplitl [Hp']; · iexact Hp'
  isplitl [Ha]; · iexact Ha
  isplitl [Hr]; · iexact Hr
  iexists _; iexact Ho

/-! ## Sending along `y` -/

/-- What the send of chunk `k` along `y` takes: the chunk, the neighbour's rows for it, and the two duties. -/
def sendPre (c : Dev nD) (k : Fin 16) : sProp 𝕄 :=
  iprop(xPts m c (near c k) shL ∗ (∃ f : Block F, oPts (yn c) (near c k) f)
    ∗ dutyTok ER (cell c (iYs k)) 0 false ∗ dutyTok ER (cell (yn c) (iYr k)) 0 false)

theorem wp_sendAt (c n : Dev nD) (hn : n = yn c) (k : Fin 16) (off : Fin 2 → ℕ) (hoff : InB off) (e : off = coff (near c k))
    {hsc : (oM.slice (Rect.unit (s := S8192x1024) off S256x1024.size hoff) (fun _ => rfl) : Memref sig (Dev.tc n : Thread nD τ).2.kind .vmem S256x1024 .f32).view.ref.isScScratch = false}
    {hsrc : (xM.slice (Rect.unit (s := S8192x1024) off S256x1024.size hoff) (fun _ => rfl) : Memref sig .tc .hbm S256x1024 .f32).view.WordExact}
    {hdst : (oM.slice (Rect.unit (s := S8192x1024) off S256x1024.size hoff) (fun _ => rfl) : Memref sig .tc .vmem S256x1024 .f32).view.WordExact}
    {hsem : DmaTarget.Typed .hbm (.dma (yr k)) (.remote (Dev.tc n : Thread nD τ) (oM.slice (Rect.unit (s := S8192x1024) off S256x1024.size hoff) (fun _ => rfl) : Memref sig .tc .vmem S256x1024 .f32) (.dma (ys k)) hsc)}
    (O : CellTallies nD τ sig Unit) (kk : PUnit → P F) (Q : PUnit → sProp 𝕄) :
    iprop(ctx m K ∗ sendPre m c k ∗ owing c (O + tallyAt (cell (yn c) (iYr k)) () N)
        ∗ ((cred (tallyAt (cell c (iYs k)) () N) ∗ owing c O) -∗ runs c (kk ⟨⟩) Q))
      ⊢ runs c (.op (.enqueueDma (xM.slice (Rect.unit (s := S8192x1024) off S256x1024.size hoff) (fun _ => rfl))
          (.remote (Dev.tc n : Thread nD τ) (oM.slice (Rect.unit (s := S8192x1024) off S256x1024.size hoff) (fun _ => rfl)) (.dma (ys k)) hsc)
          (.dma (yr k)) hsrc hdst hsem) kk) Q := by
  subst hn e
  unfold sendPre owing xPts oPts
  iintro ⟨#Hctx, ⟨Hx, ⟨%fd, Hd⟩, Ht1, Ht2⟩, ⟨%W, Ho⟩, Hk⟩
  have key := Rounds.wp_send_pointsTo 𝒱₀ ER (Rd m) (c : Thread nD τ) none (c' := (yn c : Thread nD τ)) (defs := defs₀ (F := F)) (Γ := .empty)
    (src := xC (near c k)) (dst := oC (near c k)) (hsc := hsc) (hsrc := hsrc) (hdst := hdst) (sS := csem (iYs k)) (sem := csem (iYr k)) (hsem := hsem)
    (κ₁ := K (c, iYs k)) (κ₂ := K (yn c, iYr k)) (q := shL) (fs := xval m c) (fd := fd) (k := kk) (Q := Q)
    (r₁ := 0) (r₂ := 0) (d₁ := false) (d₂ := false)
    (by rw [duties_cell]; exact Finset.mem_singleton_self _) (by rw [duties_cell]; exact Finset.mem_singleton_self _)
    () () N rfl (amount_cell m c (iYs k) 0 false) (amount_cell m (yn c) (iYr k) 0 false) O rfl (W := W)
    (by rw [payload_cell, xC_set]; exact BI.Entails.refl _)
    (by
      rw [payload_cell, oC_set]
      show _ ⊢ oPts (yn c) (near (yn c) k) (xval m (yn (yn c)))
      rw [near_yn, yn_yn]
      exact Entails.of_eq (pointsTo_congr (landed_x _ _ _)))
    (Es := Set.univ)
  rw [xC_set, oC_set] at key
  iapply key $$ [Hx Hd Ho Ht1 Ht2]
  · isplitr; · iapply (ctx_inv m K c (iYs k)); iexact Hctx
    isplitr; · iapply (ctx_inv m K (yn c) (iYr k)); iexact Hctx
    isplitl [Hx]; · iexact Hx
    isplitl [Hd]; · iexact Hd
    isplitl [Ho]; · iexact Ho
    isplitl [Ht1]; · iexact Ht1
    isplitr; · iapply (ctx_reached m K c (iYs k)); iexact Hctx
    isplitl [Ht2]; · iexact Ht2
    iapply (ctx_reached m K (yn c) (iYr k)); iexact Hctx
  iintro ⟨Hc, Ho⟩
  iapply Hk
  isplitl [Hc]; · iexact Hc
  iexists _; iexact Ho

/-- The send of chunk `k` along `y`: what it owes is paid, and its credit is held. -/
theorem wp_stepSend (c : Dev nD) (k : Fin 16) (O : CellTallies nD τ sig Unit) (Kp : P F) (Q : PUnit → sProp 𝕄) :
    iprop(ctx m K ∗ sendPre m c k ∗ owing c (O + tallyAt (cell (yn c) (iYr k)) () N)
        ∗ ((cred (tallyAt (cell c (iYs k)) () N) ∗ owing c O) -∗ runs c Kp Q))
      ⊢ runs c (stepSend c k Kp) Q :=
  wp_sendAt m K c (devY c) (devY_eq c) k _ (k0_off1_inb c k) (off1_eq c k) O (fun _ => Kp) Q

/-! ## Forwarding along `x` -/

/-- What forwarding chunk `k` takes: the chunk that has come along `y`, the other neighbour's rows for it, and the two duties. -/
def passPre (c : Dev nD) (k : Fin 16) : sProp 𝕄 :=
  iprop(oPts c (near c k) (xval m (yn c)) ∗ (∃ f : Block F, oPts (xn c) (near c k) f)
    ∗ dutyTok ER (cell c (iXs k)) 0 false ∗ dutyTok ER (cell (xn c) (iXr k)) 0 false)

theorem wp_passAt (c n : Dev nD) (hn : n = xn c) (k : Fin 16) (off : Fin 2 → ℕ) (hoff : InB off) (e : off = coff (near c k))
    {hsc : (oM.slice (Rect.unit (s := S8192x1024) off S256x1024.size hoff) (fun _ => rfl) : Memref sig (Dev.tc n : Thread nD τ).2.kind .vmem S256x1024 .f32).view.ref.isScScratch = false}
    {hsrc : (oM.slice (Rect.unit (s := S8192x1024) off S256x1024.size hoff) (fun _ => rfl) : Memref sig .tc .vmem S256x1024 .f32).view.WordExact}
    {hdst : (oM.slice (Rect.unit (s := S8192x1024) off S256x1024.size hoff) (fun _ => rfl) : Memref sig .tc .vmem S256x1024 .f32).view.WordExact}
    {hsem : DmaTarget.Typed .vmem (.dma (xr k)) (.remote (Dev.tc n : Thread nD τ) (oM.slice (Rect.unit (s := S8192x1024) off S256x1024.size hoff) (fun _ => rfl) : Memref sig .tc .vmem S256x1024 .f32) (.dma (xs k)) hsc)}
    (O : CellTallies nD τ sig Unit) (kk : PUnit → P F) (Q : PUnit → sProp 𝕄) :
    iprop(ctx m K ∗ passPre m c k ∗ owing c (O + tallyAt (cell (xn c) (iXr k)) () N)
        ∗ ((cred (tallyAt (cell c (iXs k)) () N) ∗ owing c O) -∗ runs c (kk ⟨⟩) Q))
      ⊢ runs c (.op (.enqueueDma (oM.slice (Rect.unit (s := S8192x1024) off S256x1024.size hoff) (fun _ => rfl))
          (.remote (Dev.tc n : Thread nD τ) (oM.slice (Rect.unit (s := S8192x1024) off S256x1024.size hoff) (fun _ => rfl)) (.dma (xs k)) hsc)
          (.dma (xr k)) hsrc hdst hsem) kk) Q := by
  subst hn e
  unfold passPre owing oPts
  iintro ⟨#Hctx, ⟨Hx, ⟨%fd, Hd⟩, Ht1, Ht2⟩, ⟨%W, Ho⟩, Hk⟩
  have key := Rounds.wp_send_pointsTo 𝒱₀ ER (Rd m) (c : Thread nD τ) none (c' := (xn c : Thread nD τ)) (defs := defs₀ (F := F)) (Γ := .empty)
    (src := oC (near c k)) (dst := oC (near c k)) (hsc := hsc) (hsrc := hsrc) (hdst := hdst) (sS := csem (iXs k)) (sem := csem (iXr k)) (hsem := hsem)
    (κ₁ := K (c, iXs k)) (κ₂ := K (xn c, iXr k)) (q := fullShare) (fs := xval m (yn c)) (fd := fd) (k := kk) (Q := Q)
    (r₁ := 0) (r₂ := 0) (d₁ := false) (d₂ := false)
    (by rw [duties_cell]; exact Finset.mem_singleton_self _) (by rw [duties_cell]; exact Finset.mem_singleton_self _)
    () () N rfl (amount_cell m c (iXs k) 0 false) (amount_cell m (xn c) (iXr k) 0 false) O rfl (W := W)
    (by rw [payload_cell, oC_set]; exact BI.Entails.refl _)
    (by
      rw [payload_cell, oC_set]
      show _ ⊢ oPts (xn c) (far (xn c) k) (xval m (yn (xn (xn c))))
      rw [far_xn, xn_xn]
      exact Entails.of_eq (pointsTo_congr (landed_o _ _ _)))
    (Es := Set.univ)
  rw [oC_set] at key
  iapply key $$ [Hx Hd Ho Ht1 Ht2]
  · isplitr; · iapply (ctx_inv m K c (iXs k)); iexact Hctx
    isplitr; · iapply (ctx_inv m K (xn c) (iXr k)); iexact Hctx
    isplitl [Hx]; · iexact Hx
    isplitl [Hd]; · iexact Hd
    isplitl [Ho]; · iexact Ho
    isplitl [Ht1]; · iexact Ht1
    isplitr; · iapply (ctx_reached m K c (iXs k)); iexact Hctx
    isplitl [Ht2]; · iexact Ht2
    iapply (ctx_reached m K (xn c) (iXr k)); iexact Hctx
  iintro ⟨Hc, Ho⟩
  iapply Hk
  isplitl [Hc]; · iexact Hc
  iexists _; iexact Ho

/-- What the forward step of chunk `k` takes: the credit and the position of its receive semaphore, the other neighbour's rows, and
    the two duties; -/
def forwardPre (c : Dev nD) (k : Fin 16) : sProp 𝕄 :=
  iprop((cred (tallyAt (cell c (iYr k)) () N) ∗ atPos ER (cell c (iYr k)) 0 ∅ 0)
    ∗ (∃ f : Block F, oPts (xn c) (near c k) f) ∗ dutyTok ER (cell c (iXs k)) 0 false ∗ dutyTok ER (cell (xn c) (iXr k)) 0 false)
/-- and what it leaves. -/
def forwardPost (c : Dev nD) (k : Fin 16) : sProp 𝕄 :=
  iprop(atPos ER (cell c (iYr k)) 1 ∅ 0 ∗ cred (tallyAt (cell c (iXs k)) () N))

/-- The forward step of chunk `k`. -/
theorem wp_stepForward (c : Dev nD) (k : Fin 16) (l : List (Fin 16)) (Kp : P F) (Q : PUnit → sProp 𝕄) :
    iprop(ctx m K ∗ forwardPre c k ∗ owing c (owedX c (k :: l)) ∗ ((forwardPost c k ∗ owing c (owedX c l)) -∗ runs c Kp Q))
      ⊢ runs c (stepForward c k Kp) Q := by
  unfold stepForward forwardPre forwardPost
  iintro ⟨#Hctx, ⟨⟨Hc, Ha⟩, Hd, Ht1, Ht2⟩, Ho, Hk⟩
  iapply (wp_waitOne m K c (iYr k) (yr k) rfl 0 rfl rfl (owedX c (k :: l)) (mayWait_yr c k (k :: l))
    (src := xM.slice (rect1 c k) (fun _ => rfl)) (dst := oM.slice (rect1 c k) (fun _ => rfl)) (hsrc := View.wordExact_bits rfl) (hdst := View.wordExact_bits rfl) rfl _ Q)
  isplitr; · iexact Hctx
  isplitl [Hc]; · iexact Hc
  isplitl [Ha]; · iexact Ha
  isplitl [Ho]; · iexact Ho
  rw [show pay m c 0 false (iYr k) = oPts c (near c k) (xval m (yn c)) from rfl]
  iintro ⟨Hp, Ha, -, Ho⟩
  iapply (wp_passAt m K c (devX c) (devX_eq c) k _ (k0_off1_inb c k) (off1_eq c k) (owedX c l) (fun _ => Kp) Q)
  unfold passPre
  isplitr; · iexact Hctx
  isplitl [Hp Hd Ht1 Ht2]
  · isplitl [Hp]; · iexact Hp
    isplitl [Hd]; · iexact Hd
    isplitl [Ht1] <;> iassumption
  isplitl [Ho]; · iexact Ho
  iintro ⟨Hc, Ho⟩
  iapply Hk
  isplitl [Ha Hc]
  · isplitl [Ha] <;> iassumption
  iexact Ho

/-! ## Staging -/

/-- Staging slot `s` is free, before its round `r`; -/
def free (c : Dev nD) (s : Fin 2) (r : ℕ) : sProp 𝕄 :=
  iprop(atPos ER (cell c (iCp s)) r ∅ 0 ∗ reached ER (cell c (iCp s)) r ∗ ∃ f : Slots F, sPts c s f)
/-- and round `r`'s copy into it is under way. -/
def busy (c : Dev nD) (s : Fin 2) (r : ℕ) : sProp 𝕄 :=
  iprop(atPos ER (cell c (iCp s)) r ∅ 0 ∗ cred (tallyAt (cell c (iCp s)) () N))

/-- The staging copy of round `r` into slot `s`. -/
theorem wp_stepStage (c : Dev nD) (s : Fin 2) (r : ℕ) (hr : r < 16) (off : Fin 2 → ℕ) (hoff : InB off) (e : off = coff (seqOf c s r)) (Kp : P F)
    (Q : PUnit → sProp 𝕄) :
    iprop(ctx m K ∗ (dutyTok ER (cell c (iCp s)) r false ∗ xPts m c (seqOf c s r) shR) ∗ free c s r ∗ (busy c s r -∗ runs c Kp Q))
      ⊢ runs c (stepStage off hoff s Kp) Q := by
  subst e
  unfold stepStage free busy xPts sPts
  iintro ⟨#Hctx, ⟨Ht, Hx⟩, ⟨Ha, Hr, ⟨%fd, Hs⟩⟩, Hk⟩
  have key := Rounds.wp_copy_pointsTo 𝒱₀ ER (Rd m) (c : Thread nD τ) none (defs := defs₀ (F := F)) (Γ := .empty)
    (src := xC (seqOf c s r)) (dst := slotM s) (hsrc := View.wordExact_bits rfl) (hdst := (View.wordExact_bits rfl).reshape _ _) (sem := csem (iCp s))
    (hsem := ⟨Or.inl rfl, trivial⟩)
    (κ := K (c, iCp s)) (q := shR) (fs := xval m c) (fd := fd) (k := fun _ => Kp) (Q := Q) (r := r) (d := false)
    (by rw [duties_cell]; show false ∈ (if r < 16 then {false} else ∅); rw [if_pos hr]; exact Finset.mem_singleton_self _)
    () N rfl (amount_cell m c (iCp s) r false)
    (by
      rw [payload_cell, xC_set, slot_set]
      show _ ⊢ iprop(xPts m c (seqOf c s r) shR ∗ ∃ fd : Slots F, sPts c s (staged (seqOf c s r) s (xval m c) fd))
      unfold xPts sPts staged
      iintro ⟨H1, H2⟩
      isplitl [H2]; · iexact H2
      iexists fd; iexact H1)
    (Es := Set.univ)
  rw [xC_set, slot_set] at key
  iapply key $$ [Ht Hx Hs Hr]
  · isplitr; · iapply (ctx_inv m K c (iCp s)); iexact Hctx
    isplitl [Hx]; · iexact Hx
    isplitl [Hs]; · iexact Hs
    isplitl [Ht] <;> iassumption
  iintro Hc
  iapply Hk
  isplitl [Ha] <;> iassumption

/-! ## Adding -/

/-- The addition on chunk `q` of the result: it holds `f`, the slot holds the device's own chunk, and the sum is left. -/
theorem wp_addAt (c : Dev nD) (q : Fin 32) (s : Fin 2) (f : Block F) (fd : Slots F) (off : Fin 2 → ℕ) (hoff : InB off) (e : off = coff q) (Kp : P F)
    (Q : PUnit → sProp 𝕄) :
    iprop(oPts c q f ∗ sPts c s (staged q s (xval m c) fd)
        ∗ ((oPts c q (sum f (xval m c)) ∗ sPts c s (staged q s (xval m c) fd)) -∗ runs c Kp Q))
      ⊢ runs c (.op (.load oM (Rect.unit (s := S8192x1024) off S256x1024.size hoff).toLoadRect (View.loadsAt_vmem h_S256x1024)) fun v =>
          .op (.load sM (slotR s).toLoadRect (View.loadsAt_vmem h_S1x256x1024)) fun w =>
          .op (.load oM (Rect.unit (s := S8192x1024) off S256x1024.size hoff).toLoadRect (View.loadsAt_vmem h_S256x1024)) fun _ =>
          .op (.store oM (Rect.unit (s := S8192x1024) off S256x1024.size hoff) (k0_pay1 v w) Finset.univ (View.stores_vmem_bits_univ h_S256x1024 rfl) (.inl rfl)) fun _ => Kp) Q := by
  subst e
  have hO : (oM.access (chunkR q)).set ⊆ rows q := (oC_set q).le
  have hS : (sM.access (slotR s)).set ⊆ (slotR s).set := (View.set_slice_whole _ _).le
  have hsum : oPts c q (sum f (xval m c)) = oPts c q _ := (oPts_congr c q (added q s f (xval m c) fd)).symm
  rw [hsum]
  unfold oPts sPts
  iintro ⟨Ho, Hs, Hk⟩
  iapply (wp_load_rect 𝒱₀ (c : Thread nD τ) none Set.univ (m := oM) (r := chunkR q) hO) $$ Ho; iintro Ho
  iapply (wp_load_rect 𝒱₀ (c : Thread nD τ) none Set.univ (m := sM) (r := slotR s) hS) $$ Hs; iintro Hs
  iapply (wp_load_rect 𝒱₀ (c : Thread nD τ) none Set.univ (m := oM) (r := chunkR q) hO) $$ Ho; iintro Ho
  iapply (wp_store 𝒱₀ (c : Thread nD τ) none Set.univ (m := oM) (r := chunkR q) (Mk := Finset.univ) hO) $$ Ho; iintro Ho
  iapply Hk
  isplitl [Ho]; · iexact Ho
  iexact Hs

/-- What finishing a chunk takes: the credit and the position of semaphore `i`, which hands over the chunk. -/
def addPre (c : Dev nD) (i : Ix) : sProp 𝕄 := iprop(cred (tallyAt (cell c i) () N) ∗ atPos ER (cell c i) 0 ∅ 0)
/-- What it leaves: the position after, the sum of the peer's chunk and the device's own, and the chunk of the input back. -/
def addPost (c : Dev nD) (i : Ix) (q : Fin 32) (peer : Dev nD) : sProp 𝕄 :=
  iprop(atPos ER (cell c i) 1 ∅ 0 ∗ oPts c q (sum (xval m peer) (xval m c)) ∗ xPts m c q shR)

/-- Chunk `q`, staged in round `r` of slot `s`, is finished. -/
theorem wp_stepAdd (c : Dev nD) (i : Ix) (sm : DmaSem sig) (hsm : csem i = .dma sm) (hd : dutiesOf 0 i = {false}) (ha : amountOf i = N)
    (q : Fin 32) (peer : Dev nD) (hp : pay m c 0 false i = oPts c q (xval m peer)) (k : Fin 16)
    (s : Fin 2) (r : ℕ) (hr : r < 16) (hq : seqOf c s r = q) (off off' : Fin 2 → ℕ) (hoff : InB off) (hoff' : InB off') (e : off = coff q) (Kp : P F)
    (Q : PUnit → sProp 𝕄) :
    iprop(ctx m K ∗ addPre c i ∗ busy c s r ∗ owing c 0
        ∗ ((addPost m c i q peer ∗ free c s (r + 1) ∗ owing c 0) -∗ runs c Kp Q))
      ⊢ runs c (stepAdd c k sm off off' hoff hoff' s Kp) Q := by
  subst hq
  have h0 (j : Ix) : (levAts L lv : sProp 𝕄) ⊢ MayWait (c : Thread nD τ) (csem j) () 0 := by
    rw [MayWait_zero]; iintro -; iempintro
  unfold stepAdd addPre addPost busy free
  iintro ⟨#Hctx, ⟨Hc, Ha⟩, ⟨Hb, Hcb⟩, Ho, Hk⟩
  iapply (wp_waitOne m K c i sm hsm 0 hd ha 0 (h0 i)
    (src := oM.slice (rect1 c k) (fun _ => rfl)) (dst := oM.slice (rect1 c k) (fun _ => rfl)) (hsrc := View.wordExact_bits rfl) (hdst := View.wordExact_bits rfl) rfl _ Q)
  isplitr; · iexact Hctx
  isplitl [Hc]; · iexact Hc
  isplitl [Ha]; · iexact Ha
  isplitl [Ho]; · iexact Ho
  rw [hp]
  iintro ⟨Hp, Ha, -, Ho⟩
  iapply (wp_waitOne m K c (iCp s) (cp s) rfl r (if_pos hr) rfl 0 (h0 _)
    (src := xM.slice (Rect.unit (s := S8192x1024) off' S256x1024.size hoff') (fun _ => rfl)) (dst := slotM s) (hsrc := View.wordExact_bits rfl) (hdst := (View.wordExact_bits rfl).reshape _ _) rfl _ Q)
  isplitr; · iexact Hctx
  isplitl [Hcb]; · iexact Hcb
  isplitl [Hb]; · iexact Hb
  isplitl [Ho]; · iexact Ho
  rw [show pay m c r false (iCp s) = iprop(xPts m c (seqOf c s r) shR ∗ ∃ fd : Slots F, sPts c s (staged (seqOf c s r) s (xval m c) fd)) from rfl]
  iintro ⟨⟨Hx, ⟨%fd, Hs⟩⟩, Hb, Hr, Ho⟩
  iapply (wp_addAt m c (seqOf c s r) s (xval m peer) fd off hoff e Kp Q)
  isplitl [Hp]; · iexact Hp
  isplitl [Hs]; · iexact Hs
  iintro ⟨Hp, Hs⟩
  iapply Hk
  isplitl [Ha Hp Hx]
  · isplitl [Ha]; · iexact Ha
    isplitl [Hp] <;> iassumption
  isplitl [Hb Hr Hs]
  · isplitl [Hb]; · iexact Hb
    isplitl [Hr]; · iexact Hr
    iexists _; iexact Hs
  iexact Ho

/-! ## The sends along `y`, read to the end -/

/-- What the wait for the send of chunk `k` takes; -/
def drainPre (c : Dev nD) (k : Fin 16) : sProp 𝕄 := iprop(cred (tallyAt (cell c (iYs k)) () N) ∗ atPos ER (cell c (iYs k)) 0 ∅ 0)
/-- and leaves. -/
def drainPost (c : Dev nD) (k : Fin 16) : sProp 𝕄 := iprop(atPos ER (cell c (iYs k)) 1 ∅ 0 ∗ xPts m c (near c k) shL)

theorem wp_stepDrain (c : Dev nD) (k : Fin 16) (Kp : P F) (Q : PUnit → sProp 𝕄) :
    iprop(ctx m K ∗ drainPre c k ∗ owing c 0 ∗ ((drainPost m c k ∗ owing c 0) -∗ runs c Kp Q)) ⊢ runs c (stepDrain c k Kp) Q := by
  unfold stepDrain drainPre drainPost
  iintro ⟨#Hctx, ⟨Hc, Ha⟩, Ho, Hk⟩
  iapply (wp_waitOne m K c (iYs k) (ys k) rfl 0 rfl rfl 0 (by rw [MayWait_zero]; iintro -; iempintro)
    (src := oM.slice (rect1 c k) (fun _ => rfl)) (dst := xM.slice (rect1 c k) (fun _ => rfl)) (hsrc := View.wordExact_bits rfl) (hdst := View.wordExact_bits rfl) rfl _ Q)
  isplitr; · iexact Hctx
  isplitl [Hc]; · iexact Hc
  isplitl [Ha]; · iexact Ha
  isplitl [Ho]; · iexact Ho
  rw [show pay m c 0 false (iYs k) = xPts m c (near c k) shL from rfl]
  iintro ⟨Hp, Ha, -, Ho⟩
  iapply Hk
  isplitl [Ha Hp]
  · isplitl [Ha]; · iexact Ha
    iexact Hp
  iexact Ho

end Cert.KernelIdealProof

end
-- ==== Proof.KernelIdeal.Loops.lean ====
/-
  The loops of the body.

  A loop over the chunks needs what each of its steps needs, and leaves what each of them leaves.  The two
  loops that stage one chunk ahead and finish another carry one staging copy under way and one free slot from step to step.
-/
module

public import proofs.«01_k».proof.Proof.KernelIdeal.Steps
public import Idealize.ShloMosaic.Lib.Pipeline.BigSepL

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Ix → ℕ)

/-! ## A loop -/

/-- The list counts up to the last index. -/
def Counts {n : ℕ} : List (Fin n) → Prop
  | [] => True
  | k :: l => k.val + l.length + 1 = n ∧ Counts l

/-- If each step takes `Pre k` to `Post k` and moves what is carried along, from `R (k :: l)` to `R l`, so does the loop over the list. -/
theorem wp_loop {n : ℕ} (c : Dev nD) (C : sProp 𝕄) [BI.Persistent C] (step : Fin n → P F → P F) (Pre Post : Fin n → sProp 𝕄)
    (R : List (Fin n) → sProp 𝕄) (Q : PUnit → sProp 𝕄)
    (hstep : ∀ k l Kp, k.val + l.length + 1 = n → iprop(C ∗ Pre k ∗ R (k :: l) ∗ ((Post k ∗ R l) -∗ runs c Kp Q)) ⊢ runs c (step k Kp) Q)
    (l : List (Fin n)) (hl : Counts l) (Kp : P F) :
    iprop(C ∗ bigSepL l Pre ∗ R l ∗ ((bigSepL l Post ∗ R []) -∗ runs c Kp Q)) ⊢ runs c (l.foldr step Kp) Q := by
  induction l with
  | nil =>
    iintro ⟨-, -, HR, Hk⟩
    iapply Hk
    isplitr; · iempintro
    iexact HR
  | cons k l ih =>
    rw [bigSepL_cons', bigSepL_cons', List.foldr_cons]
    iintro ⟨#HC, ⟨Hp, Hl⟩, HR, Hk⟩
    iapply (hstep k l _ hl.1)
    isplitr; · iexact HC
    isplitl [Hp]; · iexact Hp
    isplitl [HR]; · iexact HR
    iintro ⟨Hq, HR⟩
    iapply (ih hl.2)
    isplitr; · iexact HC
    isplitl [Hl]; · iexact Hl
    isplitl [HR]; · iexact HR
    iintro ⟨Hl, HR⟩
    iapply Hk
    isplitl [Hq Hl]
    · isplitl [Hq] <;> iassumption
    iexact HR

theorem counts_chunks : Counts chunks := by simp [Counts, chunks]
theorem counts_chunks' : Counts chunks' := by simp [Counts, chunks']

theorem sep_chunks (Φ : Fin 16 → sProp 𝕄) : bigSepL chunks Φ = bigSep Finset.univ Φ :=
  (bigSep_univ_eq_bigSepL chunks (by decide) (by decide) Φ).symm
theorem sep_chunks' (Φ : Fin 15 → sProp 𝕄) : bigSepL chunks' Φ = bigSep Finset.univ Φ :=
  (bigSep_univ_eq_bigSepL chunks' (by decide) (by decide) Φ).symm

/-- The first of sixteen, and the rest; -/
theorem sep_first (Φ : Fin 16 → sProp 𝕄) : bigSep Finset.univ Φ = iprop(Φ 0 ∗ bigSep Finset.univ fun k : Fin 15 => Φ k.succ) := by
  rw [Fin.univ_succ, Finset.cons_eq_insert, bigSep_insert (by simp), bigSep_map]; rfl
/-- the last of sixteen, and the rest. -/
theorem sep_last (Φ : Fin 16 → sProp 𝕄) : bigSep Finset.univ Φ = iprop(Φ 15 ∗ bigSep Finset.univ fun k : Fin 15 => Φ k.castSucc) := by
  have h : (15 : Fin 16) ∉ Finset.univ.map (Fin.castSuccEmb : Fin 15 ↪ Fin 16) := by decide
  rw [Fin.univ_castSuccEmb, Finset.cons_eq_insert, show Fin.last 15 = (15 : Fin 16) from rfl, bigSep_insert h, bigSep_map]; rfl

/-- The loop over the sixteen chunks. -/
theorem wp_loop16 (c : Dev nD) (C : sProp 𝕄) [BI.Persistent C] (step : Fin 16 → P F → P F) (Pre Post : Fin 16 → sProp 𝕄)
    (R : List (Fin 16) → sProp 𝕄) (Q : PUnit → sProp 𝕄)
    (hstep : ∀ k l Kp, k.val + l.length + 1 = 16 → iprop(C ∗ Pre k ∗ R (k :: l) ∗ ((Post k ∗ R l) -∗ runs c Kp Q)) ⊢ runs c (step k Kp) Q) (Kp : P F) :
    iprop(C ∗ (bigSep Finset.univ Pre) ∗ R chunks ∗ (((bigSep Finset.univ Post) ∗ R []) -∗ runs c Kp Q)) ⊢ runs c (chunks.foldr step Kp) Q := by
  rw [← sep_chunks, ← sep_chunks]
  exact wp_loop c C step Pre Post R Q hstep chunks counts_chunks Kp

/-- The loop over the first fifteen. -/
theorem wp_loop15 (c : Dev nD) (C : sProp 𝕄) [BI.Persistent C] (step : Fin 15 → P F → P F) (Pre Post : Fin 15 → sProp 𝕄)
    (R : List (Fin 15) → sProp 𝕄) (Q : PUnit → sProp 𝕄)
    (hstep : ∀ k l Kp, k.val + l.length + 1 = 15 → iprop(C ∗ Pre k ∗ R (k :: l) ∗ ((Post k ∗ R l) -∗ runs c Kp Q)) ⊢ runs c (step k Kp) Q) (Kp : P F) :
    iprop(C ∗ (bigSep Finset.univ Pre) ∗ R chunks' ∗ (((bigSep Finset.univ Post) ∗ R []) -∗ runs c Kp Q)) ⊢ runs c (chunks'.foldr step Kp) Q := by
  rw [← sep_chunks', ← sep_chunks']
  exact wp_loop c C step Pre Post R Q hstep chunks' counts_chunks' Kp

/-! ## The sends and the forwards -/

theorem wp_sends (c : Dev nD) (Kp : P F) (Q : PUnit → sProp 𝕄) :
    iprop(ctx m K ∗ (bigSep Finset.univ (sendPre m c)) ∗ owing c (owedY c chunks)
        ∗ (((bigSep Finset.univ fun k => cred (tallyAt (cell c (iYs k)) () N)) ∗ owing c (owedX c chunks)) -∗ runs c Kp Q))
      ⊢ runs c (chunks.foldr (stepSend c) Kp) Q :=
  wp_loop16 c (ctx m K) (stepSend c) (sendPre m c) (fun k => cred (tallyAt (cell c (iYs k)) () N)) (fun l => owing c (owedY c l)) Q
    (fun k l Kp _ => wp_stepSend m K c k (owedY c l) Kp Q) Kp

theorem wp_forwards (c : Dev nD) (Kp : P F) (Q : PUnit → sProp 𝕄) :
    iprop(ctx m K ∗ (bigSep Finset.univ (forwardPre c)) ∗ owing c (owedX c chunks)
        ∗ (((bigSep Finset.univ (forwardPost c)) ∗ owing c 0) -∗ runs c Kp Q))
      ⊢ runs c (chunks.foldr (stepForward c) Kp) Q :=
  wp_loop16 c (ctx m K) (stepForward c) (forwardPre c) (forwardPost c) (fun l => owing c (owedX c l)) Q
    (fun k l Kp _ => wp_stepForward m K c k l Kp Q) Kp

/-- The last loop, and the end of the body. -/
theorem wp_drains (c : Dev nD) (Q : PUnit → sProp 𝕄) :
    iprop(ctx m K ∗ (bigSep Finset.univ (drainPre (F := F) c)) ∗ owing c 0
        ∗ (((bigSep Finset.univ (drainPost m c)) ∗ owing c 0) -∗ (|={Set.univ}=> Q ⟨⟩)))
      ⊢ runs c (tailDrain c) Q := by
  unfold tailDrain
  exact wp_loop16 c (ctx m K) (stepDrain c) (drainPre (F := F) c) (drainPost m c) (fun _ => owing c 0) Q (fun k _ Kp _ => wp_stepDrain m K c k Kp Q) (.ret ⟨⟩)

/-! ## Staging one ahead -/

/-- The thirty-two staging copies are numbered in their order; copy `j` goes into this slot, -/
def sl (j : ℕ) : Fin 2 := ⟨j % 2, Nat.mod_lt _ (by decide)⟩
/-- and takes this chunk. -/
def chunkAt (c : Dev nD) (j : ℕ) : Fin 32 := seqOf c (sl j) (j / 2)

theorem chunkAt_far (c : Dev nD) (k : Fin 16) : chunkAt c k.val = far c k := seqOf_far c k
theorem chunkAt_near (c : Dev nD) (k : Fin 16) : chunkAt c (16 + k.val) = near c k := by
  have e1 : sl (16 + k.val) = slotOf k := Fin.ext (by show (16 + k.val) % 2 = k.val % 2; omega)
  have e2 : (16 + k.val) / 2 = 8 + k.val / 2 := by omega
  unfold chunkAt; rw [e1, e2]; exact seqOf_near c k

/-- What copy `j` takes: its duty, and the chunk. -/
def stagePre (c : Dev nD) (j : ℕ) : sProp 𝕄 :=
  iprop(dutyTok ER (cell c (iCp (sl j))) (j / 2) false ∗ xPts m c (chunkAt c j) shR)

/-- Copy `j` is under way, and the other slot is free. -/
def ahead (c : Dev nD) (j : ℕ) : sProp 𝕄 := iprop(busy (F := F) c (sl j) (j / 2) ∗ free (F := F) c (sl (j + 1)) ((j + 1) / 2))

theorem sl_add_two (j : ℕ) : sl (j + 2) = sl j := Fin.ext (by show (j + 2) % 2 = j % 2; omega)

/-- One turn: copy `j + 1` is started and the chunk of copy `j` is finished. -/
theorem wp_turn (c : Dev nD) (j : ℕ) (hj : j + 1 < 32) (i : Ix) (sm : DmaSem sig) (hsm : csem i = .dma sm) (hd : dutiesOf 0 i = {false}) (ha : amountOf i = N)
    (q : Fin 32) (peer : Dev nD) (hp : pay m c 0 false i = oPts c q (xval m peer)) (hq : chunkAt c j = q) (k : Fin 16)
    (s s' : Fin 2) (hs : s = sl (j + 1)) (hs' : s' = sl j) (off off₁ off₂ : Fin 2 → ℕ) (h : InB off) (h₁ : InB off₁) (h₂ : InB off₂)
    (e : off = coff (chunkAt c (j + 1))) (e₁ : off₁ = coff q) (Kp : P F) (Q : PUnit → sProp 𝕄) :
    iprop(ctx m K ∗ (stagePre m c (j + 1) ∗ addPre c i) ∗ (ahead c j ∗ owing c 0)
        ∗ ((addPost m c i q peer ∗ (ahead c (j + 1) ∗ owing c 0)) -∗ runs c Kp Q))
      ⊢ runs c (stepStage off h s (stepAdd c k sm off₁ off₂ h₁ h₂ s' Kp)) Q := by
  subst hs hs'
  unfold ahead stagePre
  iintro ⟨#Hctx, ⟨Hs, Ha⟩, ⟨⟨Hb, Hf⟩, Ho⟩, Hk⟩
  iapply (wp_stepStage m K c (sl (j + 1)) ((j + 1) / 2) (by omega) off h e _ Q)
  isplitr; · iexact Hctx
  isplitl [Hs]; · iexact Hs
  isplitl [Hf]; · iexact Hf
  iintro Hb'
  iapply (wp_stepAdd m K c i sm hsm hd ha q peer hp k (sl j) (j / 2) (by omega) hq off₁ off₂ h₁ h₂ e₁ Kp Q)
  isplitr; · iexact Hctx
  isplitl [Ha]; · iexact Ha
  isplitl [Hb]; · iexact Hb
  isplitl [Ho]; · iexact Ho
  iintro ⟨Ha, Hf, Ho⟩
  iapply Hk
  isplitl [Ha]; · iexact Ha
  isplitr [Ho]
  · isplitl [Hb']; · iexact Hb'
    rw [show sl (j + 1 + 1) = sl j from sl_add_two j, show (j + 1 + 1) / 2 = j / 2 + 1 by omega]
    iexact Hf
  iexact Ho

/-! ## The half that came along `y` -/

/-- What finishing chunk `k` of this half leaves. -/
abbrev nearPost (c : Dev nD) (k : Fin 16) : sProp 𝕄 := addPost m c (iXs k) (near c k) (yn c)
/-- Of the other half. -/
abbrev farPost (c : Dev nD) (k : Fin 16) : sProp 𝕄 := addPost m c (iXr k) (far c k) (yn (xn c))

/-- The half that came along `y`, its first chunk staged already: every chunk is finished, and both slots are free at the end. -/
theorem wp_near (c : Dev nD) (Q : PUnit → sProp 𝕄) :
    iprop(ctx m K ∗ (bigSep Finset.univ fun k : Fin 15 => stagePre m c (16 + k.succ.val)) ∗ (bigSep Finset.univ fun k : Fin 16 => addPre (F := F) c (iXs k))
        ∗ (ahead c 16 ∗ owing c 0)
        ∗ (((bigSep Finset.univ (nearPost m c)) ∗ (free (F := F) c 0 16 ∗ free (F := F) c 1 16) ∗ owing c 0) -∗ runs c (tailDrain c) Q))
      ⊢ runs c (tailNear c) Q := by
  unfold tailNear
  rw [sep_last (fun k : Fin 16 => addPre (F := F) c (iXs k)), sep_last (nearPost m c)]
  iintro ⟨#Hctx, Hs, ⟨Hl, Ha⟩, HR, Hk⟩
  iapply (wp_loop15 c (ctx m K) (fun k Kp => stageNear c k.succ (addNear c k.castSucc Kp))
    (fun k => iprop(stagePre m c (16 + k.succ.val) ∗ addPre (F := F) c (iXs k.castSucc))) (fun k => nearPost m c k.castSucc)
    (fun l => iprop(ahead c (31 - l.length) ∗ owing c 0)) Q (fun k l Kp hk => by
      have e1 : 31 - (k :: l).length = 16 + k.val := by rw [List.length_cons]; omega
      have e2 : 31 - l.length = 16 + k.val + 1 := by omega
      rw [e1, e2]
      exact wp_turn m K c (16 + k.val) (by have := k.isLt; omega) (iXs k.castSucc) (xs k.castSucc) rfl rfl rfl (near c k.castSucc) (yn c) rfl
        (chunkAt_near c k.castSucc) k.castSucc _ _ (Fin.ext (by show (k.val + 1) % 2 = (16 + k.val + 1) % 2; omega))
        (Fin.ext (by show k.val % 2 = (16 + k.val) % 2; omega)) _ _ _ _ _ _
        ((off1_eq c k.succ).trans (congrArg coff (chunkAt_near c k.succ).symm)) (off4_eq c k.castSucc) Kp Q))
  isplitr; · iexact Hctx
  rw [bigSep_sep' Finset.univ (fun k : Fin 15 => stagePre m c (16 + k.succ.val)) (fun k => addPre (F := F) c (iXs k.castSucc))]
  isplitl [Hs Ha]
  · isplitl [Hs] <;> iassumption
  isplitl [HR]; · iexact HR
  unfold ahead
  iintro ⟨Hp, ⟨Hb, Hf⟩, Ho⟩
  iapply (wp_stepAdd m K c (iXs 15) (xs 15) rfl rfl rfl (near c 15) (yn c) rfl 15 (slotOf 15) 15 (by decide) (chunkAt_near c 15)
    _ _ _ _ (off4_eq c 15) _ Q)
  isplitr; · iexact Hctx
  isplitl [Hl]; · iexact Hl
  isplitl [Hb]; · iexact Hb
  isplitl [Ho]; · iexact Ho
  iintro ⟨Hl, Hf', Ho⟩
  iapply Hk
  isplitl [Hl Hp]
  · isplitl [Hl] <;> iassumption
  isplitr [Ho]
  · isplitl [Hf]; · iexact Hf
    iexact Hf'
  iexact Ho

/-- Both halves. -/
theorem wp_far (c : Dev nD) (Q : PUnit → sProp 𝕄) :
    iprop(ctx m K ∗ (bigSep Finset.univ fun k : Fin 16 => stagePre m c k.val) ∗ (bigSep Finset.univ fun k : Fin 16 => stagePre m c (16 + k.val))
        ∗ (bigSep Finset.univ fun k : Fin 16 => addPre (F := F) c (iXr k)) ∗ (bigSep Finset.univ fun k : Fin 16 => addPre (F := F) c (iXs k))
        ∗ (free (F := F) c 0 0 ∗ free (F := F) c 1 0) ∗ owing c 0
        ∗ (((bigSep Finset.univ (farPost m c)) ∗ (bigSep Finset.univ (nearPost m c)) ∗ (free (F := F) c 0 16 ∗ free (F := F) c 1 16) ∗ owing c 0)
            -∗ runs c (tailDrain c) Q))
      ⊢ runs c (tailFar c) Q := by
  unfold tailFar
  rw [sep_first (fun k : Fin 16 => stagePre m c k.val), sep_first (fun k : Fin 16 => stagePre m c (16 + k.val)),
    sep_last (fun k : Fin 16 => addPre (F := F) c (iXr k)), sep_last (farPost m c)]
  iintro ⟨#Hctx, ⟨Hs0, Hs⟩, ⟨Hn0, Hn⟩, ⟨Hl, Ha⟩, Hna, ⟨Hf0, Hf1⟩, Ho, Hk⟩
  unfold stagePre
  iapply (wp_stepStage m K c 0 0 (by decide) _ (k0_off2_inb c 0) ((off2_eq c 0).trans (congrArg coff (chunkAt_far c 0).symm)) _ Q)
  isplitr; · iexact Hctx
  isplitl [Hs0]; · iexact Hs0
  isplitl [Hf0]; · iexact Hf0
  iintro Hb
  iapply (wp_loop15 c (ctx m K) (fun k Kp => stageFar c k.succ (addFar c k.castSucc Kp))
    (fun k => iprop(stagePre m c k.succ.val ∗ addPre (F := F) c (iXr k.castSucc))) (fun k => farPost m c k.castSucc)
    (fun l => iprop(ahead c (15 - l.length) ∗ owing c 0)) Q (fun k l Kp hk => by
      have e1 : 15 - (k :: l).length = k.val := by rw [List.length_cons]; omega
      have e2 : 15 - l.length = k.val + 1 := by omega
      rw [e1, e2]
      exact wp_turn m K c k.val (by have := k.isLt; omega) (iXr k.castSucc) (xr k.castSucc) rfl rfl rfl (far c k.castSucc) (yn (xn c)) rfl
        (chunkAt_far c k.castSucc) k.castSucc _ _ rfl rfl _ _ _ _ _ _
        ((off2_eq c k.succ).trans (congrArg coff (chunkAt_far c k.succ).symm)) (off3_eq c k.castSucc) Kp Q))
  isplitr; · iexact Hctx
  rw [bigSep_sep' Finset.univ (fun k : Fin 15 => stagePre m c k.succ.val) (fun k => addPre (F := F) c (iXr k.castSucc))]
  isplitl [Hs Ha]
  · isplitl [Hs]; · iexact Hs
    iexact Ha
  isplitl [Hb Hf1 Ho]
  · unfold ahead
    isplitl [Hb Hf1]
    · isplitl [Hb]; · iexact Hb
      iexact Hf1
    iexact Ho
  iintro ⟨Hp, HR⟩
  iapply (wp_turn m K c 15 (by decide) (iXr 15) (xr 15) rfl rfl rfl (far c 15) (yn (xn c)) rfl (chunkAt_far c 15) 15 _ _ rfl rfl _ _ _ _ _ _
        ((off1_eq c 0).trans (congrArg coff (chunkAt_near c 0).symm)) (off3_eq c 15) _ Q)
  isplitr; · iexact Hctx
  isplitl [Hn0 Hl]
  · isplitl [Hn0]; · unfold stagePre; iexact Hn0
    iexact Hl
  isplitl [HR]; · iexact HR
  iintro ⟨Hl, HR⟩
  iapply (wp_near m K c Q)
  isplitr; · iexact Hctx
  isplitl [Hn]; · iexact Hn
  isplitl [Hna]; · iexact Hna
  isplitl [HR]; · iexact HR
  iintro ⟨Hnp, Hf, Ho⟩
  iapply Hk
  isplitl [Hl Hp]
  · isplitl [Hl] <;> iassumption
  isplitl [Hnp]; · iexact Hnp
  isplitl [Hf] <;> iassumption

end Cert.KernelIdealProof

end
-- ==== Proof.KernelIdeal.Split.lean ====
/-
  The buffers whole and by chunks.

  A device's block of the input and its result are the chunks of its two halves; its staging buffer is two slots.  The finished
  chunks are the result whole: each row is the device's own and that of a neighbour along `y`.
-/
module

public import proofs.«01_k».proof.Proof.KernelIdeal.Loops

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The block of the input -/

/-- Device `c`'s block of the input, whole, at share `sh`; -/
def xAll (c : Dev nD) (sh : PosShare TreeShare) : sProp 𝕄 :=
  ((c : Thread nD τ).loc main_arg0) ↦{sh} (xval m c : Buf (Elt F) ((c : Thread nD τ).loc main_arg0))
/-- its result; -/
def oAll (c : Dev nD) (f : Block F) : sProp 𝕄 :=
  ((c : Thread nD τ).loc cc0_stg0_0) ↦{fullShare} (f : Buf (Elt F) ((c : Thread nD τ).loc cc0_stg0_0))
/-- its staging buffer. -/
def sAll (c : Dev nD) (f : Slots F) : sProp 𝕄 :=
  ((c : Thread nD τ).loc cc0_scratch0) ↦{fullShare} (f : Buf (Elt F) ((c : Thread nD τ).loc cc0_scratch0))

/-- A conjunction over the chunks of the two halves. -/
theorem sep_half (c : Dev nD) (Φ : Fin 32 → sProp 𝕄) :
    (bigSep Finset.univ fun t : Fin 16 ⊕ Fin 16 => Φ (half c t))
      = iprop((bigSep Finset.univ fun k : Fin 16 => Φ (near c k)) ∗ bigSep Finset.univ fun k : Fin 16 => Φ (far c k)) :=
  bigSep_univ_sum fun t => Φ (half c t)

/-- The block is the chunks of the two halves. -/
theorem xAll_eq (c : Dev nD) (sh : PosShare TreeShare) :
    xAll m c sh = iprop((bigSep Finset.univ fun k : Fin 16 => xPts m c (near c k) sh) ∗ bigSep Finset.univ fun k : Fin 16 => xPts m c (far c k) sh) := by
  rw [← sep_half c fun q => xPts m c q sh]
  have h := pointsTo_biUnion (ℓ := (c : Thread nD τ).loc main_arg0) (q := sh) (f := (xval m c : Buf (Elt F) ((c : Thread nD τ).loc main_arg0)))
    (Ix := Unit) (Name := ℕ) (U := UU) (Lvl := ℕ) Finset.univ (fun t => rows (half c t)) (half_disjoint c)
  rw [rows_cover] at h
  exact h

/-- The result is the chunks of the two halves. -/
theorem oAll_eq (c : Dev nD) (f : Block F) :
    oAll c f = iprop((bigSep Finset.univ fun k : Fin 16 => oPts c (near c k) f) ∗ bigSep Finset.univ fun k : Fin 16 => oPts c (far c k) f) := by
  rw [← sep_half c fun q => oPts c q f]
  have h := pointsTo_biUnion (ℓ := (c : Thread nD τ).loc cc0_stg0_0) (q := fullShare) (f := (f : Buf (Elt F) ((c : Thread nD τ).loc cc0_stg0_0)))
    (Ix := Unit) (Name := ℕ) (U := UU) (Lvl := ℕ) Finset.univ (fun t => rows (half c t)) (half_disjoint c)
  rw [rows_cover] at h
  exact h

/-- The block at full share is the block at each half share. -/
theorem xAll_share (c : Dev nD) : xAll m c fullShare ⊣⊢ iprop(xAll m c shL ∗ xAll m c shR) :=
  pointsTo_share (PosShare.mem_left_op_right fullShare)

/-- The result, whatever it holds, is the landing rows of the two neighbours. -/
theorem oAll_landing (c : Dev nD) (f : Block F) : oAll c f ⊢ iprop(landing (F := F) (yn c) c ∗ landing (F := F) (xn c) c) := by
  have h (q : Fin 16 → Fin 32) : (bigSep Finset.univ fun k : Fin 16 => oPts c (q k) f) ⊢ bigSep Finset.univ fun k : Fin 16 => iprop(∃ f : Block F, oPts c (q k) f) :=
    bigSep_mono fun k _ => (show oPts c (q k) f ⊢ iprop(∃ g : Block F, oPts c (q k) g) by iintro H; iexists f; iexact H)
  rw [oAll_eq]
  unfold landing
  simp only [near_yn, near_xn]
  iintro ⟨H1, H2⟩
  isplitl [H1]; · iapply (h (near c)); iexact H1
  iapply (h (far c)); iexact H2

/-! ## The result -/

open Classical in
/-- The device along `y` whose row is added to device `c`'s: the neighbour for the half that comes along `y`, and the other neighbour's
    neighbour for the half that comes along `x`. -/
def peer (c : Dev nD) (i : S8192x1024.Idx) : Dev nD := if ∃ k, i ∈ rows (near c k) then yn c else yn (xn c)

/-- The result of device `c`. -/
def outval (c : Dev nD) : Block F := fun i => sum (xval m (peer c i)) (xval m c) i

theorem peer_near (c : Dev nD) (k : Fin 16) (i : S8192x1024.Idx) (hi : i ∈ rows (near c k)) : peer c i = yn c := if_pos ⟨k, hi⟩
theorem peer_far (c : Dev nD) (k : Fin 16) (i : S8192x1024.Idx) (hi : i ∈ rows (far c k)) : peer c i = yn (xn c) :=
  if_neg fun ⟨k', h⟩ => Finset.disjoint_left.mp
    (half_disjoint c (.inl k') (Finset.mem_univ _) (.inr k) (Finset.mem_univ _) (fun e => by cases e)) h hi

/-- The finished chunks are the result. -/
theorem oAll_outval (c : Dev nD) :
    oAll c (outval m c) = iprop((bigSep Finset.univ fun k : Fin 16 => oPts c (near c k) (sum (xval m (yn c)) (xval m c)))
      ∗ bigSep Finset.univ fun k : Fin 16 => oPts c (far c k) (sum (xval m (yn (xn c))) (xval m c))) := by
  have h1 (k : Fin 16) : oPts c (near c k) (outval m c) = oPts c (near c k) (sum (xval m (yn c)) (xval m c)) :=
    oPts_congr c _ fun i hi => by unfold outval; rw [peer_near c k i hi]
  have h2 (k : Fin 16) : oPts c (far c k) (outval m c) = oPts c (far c k) (sum (xval m (yn (xn c))) (xval m c)) :=
    oPts_congr c _ fun i hi => by unfold outval; rw [peer_far c k i hi]
  rw [oAll_eq]; simp only [h1, h2]

/-! ## The staging buffer -/

theorem mem_slot (s : Fin 2) (i : S2x256x1024.Idx) : i ∈ (slotR s).set ↔ (i 0).val = s.val := by
  have h1 : (i 1).val < 256 := (i 1).isLt
  have h2 : (i 2).val < 1024 := (i 2).isLt
  rw [show (i ∈ (slotR s).set) ↔ ∀ a : Fin 3, (![s.val, 0, 0] : Fin 3 → ℕ) a ≤ (i a).val ∧ (i a).val < (![s.val, 0, 0] : Fin 3 → ℕ) a + S1x256x1024.size a
    from Rect.mem_set_unit]
  constructor
  · intro h
    have h0 : s.val ≤ (i 0).val ∧ (i 0).val < s.val + 1 := h 0
    omega
  · intro h a
    match a with
    | 0 => exact (show s.val ≤ (i 0).val ∧ (i 0).val < s.val + 1 by omega)
    | 1 => exact (show 0 ≤ (i 1).val ∧ (i 1).val < 0 + 256 by omega)
    | 2 => exact (show 0 ≤ (i 2).val ∧ (i 2).val < 0 + 1024 by omega)

theorem slots_disjoint : Disjoint (slotR 0).set (slotR 1).set :=
  Finset.disjoint_left.mpr fun i h h' => absurd (((mem_slot 0 i).mp h).symm.trans ((mem_slot 1 i).mp h')) (by decide)

theorem slots_cover : (slotR 0).set ∪ (slotR 1).set = (Finset.univ : Finset S2x256x1024.Idx) := by
  ext i
  simp only [Finset.mem_union, Finset.mem_univ, iff_true, mem_slot]
  have h : (i 0).val < 2 := (i 0).isLt
  show (i 0).val = 0 ∨ (i 0).val = 1
  omega

/-- The staging buffer is its two slots; -/
theorem sAll_slots (c : Dev nD) (f : Slots F) : sAll c f ⊢ iprop(sPts c 0 f ∗ sPts c 1 f) := by
  have h := (pointsTo_union (ℓ := (c : Thread nD τ).loc cc0_scratch0) (q := fullShare) (f := (f : Buf (Elt F) ((c : Thread nD τ).loc cc0_scratch0)))
    (Ix := Unit) (Name := ℕ) (U := UU) (Lvl := ℕ) slots_disjoint).1
  rw [slots_cover] at h
  exact h
/-- and the two slots are the buffer again. -/
theorem slots_sAll (c : Dev nD) (f g : Slots F) : iprop(sPts c 0 f ∗ sPts c 1 g) ⊢ (∃ f, sAll c f : sProp 𝕄) := by
  have h := pointsTo_join (ℓ := (c : Thread nD τ).loc cc0_scratch0) (q := fullShare) (f := (f : Buf (Elt F) ((c : Thread nD τ).loc cc0_scratch0)))
    (g := (g : Buf (Elt F) ((c : Thread nD τ).loc cc0_scratch0))) (Ix := Unit) (Name := ℕ) (U := UU) (Lvl := ℕ) slots_disjoint
  rw [slots_cover] at h
  unfold sPts
  iintro H
  ihave H' := h $$ H
  iexists ((slotR 1).set.piecewise g f)
  unfold sAll; iexact H'

end Cert.KernelIdealProof

end
-- ==== Proof.KernelIdeal.Body.lean ====
/-
  The body on one core, from its start to its end.

  The core signals its two neighbours, handing each the rows of its result that the neighbour writes; waits for theirs; and runs
  the loops.  At the end every semaphore is back at zero, the input is as it was, and the result is the sums.
-/
module

public import proofs.«01_k».proof.Proof.KernelIdeal.Split

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Ix → ℕ)

/-! ## What a core starts with -/

/-- The duties that device `c` pays: at its neighbours' barriers, at both ends of its sends, and at its staging copies. -/
def payToks (c : Dev nD) : sProp 𝕄 :=
  iprop((dutyTok ER (cell (yn c) iBar) 0 false ∗ dutyTok ER (cell (xn c) iBar) 0 true)
    ∗ (bigSep Finset.univ fun k => dutyTok ER (cell c (iYs k)) 0 false) ∗ (bigSep Finset.univ fun k => dutyTok ER (cell (yn c) (iYr k)) 0 false)
    ∗ (bigSep Finset.univ fun k => dutyTok ER (cell c (iXs k)) 0 false) ∗ (bigSep Finset.univ fun k => dutyTok ER (cell (xn c) (iXr k)) 0 false)
    ∗ (bigSep Finset.univ fun k : Fin 16 => dutyTok ER (cell c (iCp (sl k.val))) (k.val / 2) false)
    ∗ bigSep Finset.univ fun k : Fin 16 => dutyTok ER (cell c (iCp (sl (16 + k.val)))) ((16 + k.val) / 2) false)

/-- What is owed to device `c`: two signals of its barrier and every chunk it receives. -/
def credits (c : Dev nD) : sProp 𝕄 :=
  iprop(cred (tallyAt (cell c iBar) () 2) ∗ (bigSep Finset.univ fun k => cred (tallyAt (cell c (iYr k)) () N))
    ∗ bigSep Finset.univ fun k => cred (tallyAt (cell c (iXr k)) () N))

/-- A conjunction over a device's semaphores, by kind. -/
theorem sep_ix (Φ : Ix → sProp 𝕄) :
    bigSep Finset.univ Φ = iprop(Φ iBar ∗ (bigSep Finset.univ fun k => Φ (iYs k)) ∗ (bigSep Finset.univ fun k => Φ (iYr k))
      ∗ (bigSep Finset.univ fun k => Φ (iXs k)) ∗ (bigSep Finset.univ fun k => Φ (iXr k)) ∗ Φ (iCp 0) ∗ Φ (iCp 1)) := by
  rw [bigSep_univ_sum, bigSep_univ_sum, bigSep_univ_sum, bigSep_univ_sum, bigSep_univ_sum,
    bigSep_univ_eq_bigSepL [()] (by decide) (by decide) (fun a : Unit => Φ (.inl a)),
    bigSep_univ_eq_bigSepL [0, 1] (by decide) (by decide) (fun s : Fin 2 => Φ (iCp s))]
  rfl

/-! ## The end: every semaphore is back at zero -/

theorem close_all (c : Dev nD) :
    iprop(ctx m K ∗ bigSep Finset.univ fun i : Ix => atPos ER (cell c i) (roundsOf i) ∅ 0)
      ⊢ (|={Set.univ}=> bigSep Finset.univ fun i : Ix => semVal (cell c i) 0 : sProp 𝕄) := by
  have h1 (i : Ix) : iprop(ctx m K ∗ atPos ER (cell c i) (roundsOf i) ∅ 0) ⊢ (|={Set.univ}=> semVal (cell c i) 0 : sProp 𝕄) := by
    iintro ⟨#Hctx, Ha⟩
    iapply (Rounds.cell_close ER (Rd m) (Set.mem_univ (K (c, i))) (fun h => h) (R := roundsOf i) (duties_later m c i))
    isplitr; · iapply (ctx_inv m K c i); iexact Hctx
    iexact Ha
  refine BIBase.Entails.trans ?_ (bigSep_fupd Finset.univ fun i : Ix => semVal (cell c i) 0)
  refine (sep_mono_left (BI.bigSep_of_persistent (Finset.univ : Finset Ix) (ctx m K))).trans ?_
  rw [← bigSep_sep']
  exact bigSep_mono fun i _ => h1 i

/-! ## The body -/

/-- The body from after the barrier: the loops. -/
theorem wp_loops (c : Dev nD) (Q : PUnit → sProp 𝕄) :
    iprop(ctx m K
        ∗ ((bigSep Finset.univ (sendPre m c)) ∗ (bigSep Finset.univ (forwardPre c))
          ∗ (bigSep Finset.univ fun k : Fin 16 => stagePre m c k.val) ∗ (bigSep Finset.univ fun k : Fin 16 => stagePre m c (16 + k.val))
          ∗ ((bigSep Finset.univ fun k => cred (tallyAt (cell c (iXr k)) () N)) ∗ (bigSep Finset.univ fun k => atPos ER (cell c (iXr k)) 0 ∅ 0))
          ∗ (bigSep Finset.univ fun k => atPos ER (cell c (iXs k)) 0 ∅ 0) ∗ (bigSep Finset.univ fun k => atPos ER (cell c (iYs k)) 0 ∅ 0)
          ∗ (free (F := F) c 0 0 ∗ free (F := F) c 1 0))
        ∗ owing c (owedY c chunks)
        ∗ (((bigSep Finset.univ fun k => atPos ER (cell c (iYr k)) 1 ∅ 0) ∗ (bigSep Finset.univ (farPost m c)) ∗ (bigSep Finset.univ (nearPost m c))
            ∗ (bigSep Finset.univ (drainPost m c)) ∗ (free (F := F) c 0 16 ∗ free (F := F) c 1 16) ∗ owing c 0) -∗ (|={Set.univ}=> Q ⟨⟩)))
      ⊢ runs c (tailSend c) Q := by
  unfold tailSend
  iintro ⟨#Hctx, ⟨Hsend, Hfwd, Hst, Hst', ⟨HcXr, HaXr⟩, HaXs, HaYs, Hf⟩, Ho, Hk⟩
  iapply (wp_sends m K c _ Q)
  isplitr; · iexact Hctx
  isplitl [Hsend]; · iexact Hsend
  isplitl [Ho]; · iexact Ho
  iintro ⟨HcYs, Ho⟩
  unfold tailForward
  iapply (wp_forwards m K c _ Q)
  isplitr; · iexact Hctx
  isplitl [Hfwd]; · iexact Hfwd
  isplitl [Ho]; · iexact Ho
  unfold forwardPost
  rw [bigSep_sep' Finset.univ (fun k : Fin 16 => atPos ER (cell c (iYr k)) 1 ∅ 0) (fun k => cred (tallyAt (cell c (iXs k)) () N))]
  iintro ⟨⟨HaYr, HcXs⟩, Ho⟩
  iapply (wp_far m K c Q)
  unfold addPre
  rw [bigSep_sep' Finset.univ (fun k : Fin 16 => cred (tallyAt (cell c (iXr k)) () N)) (fun k => atPos ER (cell c (iXr k)) 0 ∅ 0),
    bigSep_sep' Finset.univ (fun k : Fin 16 => cred (tallyAt (cell c (iXs k)) () N)) (fun k => atPos ER (cell c (iXs k)) 0 ∅ 0)]
  isplitr; · iexact Hctx
  isplitl [Hst]; · iexact Hst
  isplitl [Hst']; · iexact Hst'
  isplitl [HcXr HaXr]
  · isplitl [HcXr] <;> iassumption
  isplitl [HcXs HaXs]
  · isplitl [HcXs] <;> iassumption
  isplitl [Hf]; · iexact Hf
  isplitl [Ho]; · iexact Ho
  iintro ⟨Hfar, Hnear, Hf, Ho⟩
  iapply (wp_drains m K c Q)
  unfold drainPre
  rw [bigSep_sep' Finset.univ (fun k : Fin 16 => cred (tallyAt (cell c (iYs k)) () N)) (fun k => atPos ER (cell c (iYs k)) 0 ∅ 0)]
  isplitr; · iexact Hctx
  isplitl [HcYs HaYs]
  · isplitl [HcYs] <;> iassumption
  isplitl [Ho]; · iexact Ho
  iintro ⟨Hd, Ho⟩
  iapply Hk
  isplitl [HaYr]; · iexact HaYr
  isplitl [Hfar]; · iexact Hfar
  isplitl [Hnear]; · iexact Hnear
  isplitl [Hd]; · iexact Hd
  isplitl [Hf] <;> iassumption

/-- The barrier, and the loops after it. -/
theorem wp_program (c : Dev nD) (Q : PUnit → sProp 𝕄) :
    iprop(ctx m K ∗ (bigSep Finset.univ fun i : Ix => atPos ER (cell c i) 0 ∅ 0) ∗ payToks (F := F) c ∗ credits (F := F) c
        ∗ xAll m c fullShare ∗ (∃ f, oAll c f) ∗ (∃ f, sAll c f) ∗ owing c (owed0 c)
        ∗ (((bigSep Finset.univ fun i : Ix => semVal (cell c i) 0) ∗ xAll m c fullShare ∗ oAll c (outval m c) ∗ (∃ f, sAll c f) ∗ owing c 0) -∗ Q ⟨⟩))
      ⊢ runs c program Q := by
  unfold program runs
  rw [wp_deviceId, sep_ix (fun i : Ix => atPos ER (cell c i) 0 ∅ 0)]
  unfold payToks credits owing
  simp only [dev1_eq c, dev2_eq c]
  iintro ⟨#Hctx, ⟨HaB, HaYs, HaYr, HaXs, HaXr, HaC0, HaC1⟩, ⟨⟨HtB1, HtB2⟩, HtYs, HtYr, HtXs, HtXr, HtC, HtC'⟩, ⟨HcB, HcYr, HcXr⟩,
    Hx, ⟨%fo, Ho⟩, ⟨%fs, Hs⟩, ⟨%W, HO⟩, Hk⟩
  ihave Ho' := (oAll_landing c fo) $$ Ho
  icases Ho' with ⟨Hl1, Hl2⟩
  -- the signal to the neighbour along `y`, with the rows it writes
  iapply (Rounds.wp_signal 𝒱₀ ER (Rd m) (c : Thread nD τ) none (dst := (yn c : Thread nD τ)) (κ := K (yn c, iBar))
      (d := false) (by rw [show ((yn c : Thread nD τ), SemLoc.reg bar) = cell (yn c) iBar from rfl, duties_cell]; exact Finset.mem_univ _)
      ((amount_cell m (yn c) iBar 0 false).trans (by decide)) () (owed1 c) rfl) $$ [HO HtB1 Hl1]
  · isplitr; · iapply (ctx_inv m K (yn c) iBar); iexact Hctx
    isplitl [HO]; · iexact HO
    isplitl [HtB1]; · iexact HtB1
    isplitl [Hl1]
    · rw [show ((yn c : Thread nD τ), SemLoc.reg bar) = cell (yn c) iBar from rfl, payload_cell]
      rw [show pay m (yn c) 0 false iBar = landing (F := F) (yn c) (yn (yn c)) from rfl, yn_yn]
      iexact Hl1
    iapply (ctx_reached m K (yn c) iBar); iexact Hctx
  iintro HO
  -- the signal to the neighbour along `x`
  iapply (Rounds.wp_signal 𝒱₀ ER (Rd m) (c : Thread nD τ) none (dst := (xn c : Thread nD τ)) (κ := K (xn c, iBar))
      (d := true) (by rw [show ((xn c : Thread nD τ), SemLoc.reg bar) = cell (xn c) iBar from rfl, duties_cell]; exact Finset.mem_univ _)
      ((amount_cell m (xn c) iBar 0 true).trans (by decide)) () (owedY c chunks) rfl) $$ [HO HtB2 Hl2]
  · isplitr; · iapply (ctx_inv m K (xn c) iBar); iexact Hctx
    isplitl [HO]; · iexact HO
    isplitl [HtB2]; · iexact HtB2
    isplitl [Hl2]
    · rw [show ((xn c : Thread nD τ), SemLoc.reg bar) = cell (xn c) iBar from rfl, payload_cell]
      rw [show pay m (xn c) 0 true iBar = landing (F := F) (xn c) (xn (xn c)) from rfl, xn_xn]
      iexact Hl2
    iapply (ctx_reached m K (xn c) iBar); iexact Hctx
  iintro HO
  -- the wait for both, and the rows that this core writes
  iapply (Rounds.wp_wait_rest_token 𝒱₀ ER (Rd m) (c : Thread nD τ) none (κ := K (c, iBar))
      (wpE_semWait_eq 𝒱₀ (c : Thread nD τ) none Set.univ) (Set.mem_univ _) () (O := owedY c chunks) (W := W) (R := 0) (m := 0) (T := ∅)
      (by rw [show ((c : Thread nD τ), SemLoc.reg bar) = cell c iBar from rfl, expect_bar]; decide)) $$ [HcB HO HaB]
  · isplitr; · iapply (ctx_inv m K c iBar); iexact Hctx
    isplitl [HcB]; · iexact HcB
    isplitl [HO]; · iexact HO
    isplitr; · iapply (mayWait_bar c); iapply (ctx_lev m K); iexact Hctx
    iexact HaB
  iintro ⟨HO, HaB, -, Hpay⟩
  have hrest : bigSep ((Rd m).duties ((c : Thread nD τ), SemLoc.reg bar) 0 \ ∅) (fun d => (Rd m).payload ((c : Thread nD τ), SemLoc.reg bar) 0 d)
      = iprop(landing (F := F) c (yn c) ∗ landing (F := F) c (xn c)) := rest_bar m c
  ihave Hp := (Entails.of_eq hrest) $$ Hpay
  unfold landing
  icases Hp with ⟨Hl1, Hl2⟩
  -- the input by chunks and shares, the staging buffer by slots
  ihave Hx := (xAll_share m c).1 $$ Hx
  rw [xAll_eq m c shL, xAll_eq m c shR]
  icases Hx with ⟨⟨HxNL, HxFL⟩, HxNR, HxFR⟩
  ihave Hs := (sAll_slots c fs) $$ Hs
  icases Hs with ⟨Hs0, Hs1⟩
  iapply (wp_loops m K c Q)
  isplitr; · iexact Hctx
  isplitr [HO Hk HaB HxFL]
  · isplitl [HxNL Hl1 HtYs HtYr]
    · unfold sendPre
      rw [bigSep_sep' Finset.univ (fun k : Fin 16 => xPts m c (near c k) shL), bigSep_sep' Finset.univ (fun k : Fin 16 => iprop(∃ f : Block F, oPts (yn c) (near c k) f)),
        bigSep_sep' Finset.univ (fun k : Fin 16 => dutyTok ER (cell c (iYs k)) 0 false)]
      isplitl [HxNL]; · iexact HxNL
      isplitl [Hl1]; · iexact Hl1
      isplitl [HtYs] <;> iassumption
    isplitl [HcYr HaYr Hl2 HtXs HtXr]
    · unfold forwardPre
      rw [bigSep_sep' Finset.univ (fun k : Fin 16 => iprop(cred (tallyAt (cell c (iYr k)) () N) ∗ atPos ER (cell c (iYr k)) 0 ∅ 0)),
        bigSep_sep' Finset.univ (fun k : Fin 16 => cred (tallyAt (cell c (iYr k)) () N)),
        bigSep_sep' Finset.univ (fun k : Fin 16 => iprop(∃ f : Block F, oPts (xn c) (near c k) f)),
        bigSep_sep' Finset.univ (fun k : Fin 16 => dutyTok ER (cell c (iXs k)) 0 false)]
      isplitl [HcYr HaYr]
      · isplitl [HcYr] <;> iassumption
      isplitl [Hl2]; · iexact Hl2
      isplitl [HtXs] <;> iassumption
    unfold stagePre
    rw [bigSep_sep' Finset.univ (fun k : Fin 16 => dutyTok ER (cell c (iCp (sl k.val))) (k.val / 2) false),
      bigSep_sep' Finset.univ (fun k : Fin 16 => dutyTok ER (cell c (iCp (sl (16 + k.val)))) ((16 + k.val) / 2) false)]
    simp only [chunkAt_far, chunkAt_near]
    isplitl [HtC HxFR]
    · isplitl [HtC] <;> iassumption
    isplitl [HtC' HxNR]
    · isplitl [HtC'] <;> iassumption
    isplitl [HcXr HaXr]
    · isplitl [HcXr] <;> iassumption
    isplitl [HaXs]; · iexact HaXs
    isplitl [HaYs]; · iexact HaYs
    unfold free
    isplitl [HaC0 Hs0]
    · isplitl [HaC0]; · iexact HaC0
      isplitr; · iapply (ctx_reached m K c (iCp 0)); iexact Hctx
      iexists fs; iexact Hs0
    · isplitl [HaC1]; · iexact HaC1
      isplitr; · iapply (ctx_reached m K c (iCp 1)); iexact Hctx
      iexists fs; iexact Hs1
  isplitl [HO]; · unfold owing; iexists _; iexact HO
  unfold farPost nearPost addPost drainPost free
  rw [bigSep_sep' Finset.univ (fun k : Fin 16 => atPos ER (cell c (iXr k)) 1 ∅ 0),
    bigSep_sep' Finset.univ (fun k : Fin 16 => oPts c (far c k) (sum (xval m (yn (xn c))) (xval m c))),
    bigSep_sep' Finset.univ (fun k : Fin 16 => atPos ER (cell c (iXs k)) 1 ∅ 0),
    bigSep_sep' Finset.univ (fun k : Fin 16 => oPts c (near c k) (sum (xval m (yn c)) (xval m c))),
    bigSep_sep' Finset.univ (fun k : Fin 16 => atPos ER (cell c (iYs k)) 1 ∅ 0)]
  iintro ⟨HaYr, ⟨HaXr, HoF, HxFR⟩, ⟨HaXs, HoN, HxNR⟩, ⟨HaYs, HxNL⟩, ⟨⟨HaC0, -, ⟨%f0, Hs0⟩⟩, HaC1, -, ⟨%f1, Hs1⟩⟩, HO⟩
  imod (close_all m K c) $$ [HaB HaYs HaYr HaXs HaXr HaC0 HaC1] with Hz
  · isplitr; · iexact Hctx
    rw [sep_ix (fun i : Ix => atPos ER (cell c i) (roundsOf i) ∅ 0)]
    isplitl [HaB]; · iexact HaB
    isplitl [HaYs]; · iexact HaYs
    isplitl [HaYr]; · iexact HaYr
    isplitl [HaXs]; · iexact HaXs
    isplitl [HaXr]; · iexact HaXr
    isplitl [HaC0]; · iexact HaC0
    iexact HaC1
  imodintro
  iapply Hk
  isplitl [Hz]; · iexact Hz
  isplitl [HxNL HxFL HxNR HxFR]
  · iapply (xAll_share m c).2
    rw [xAll_eq m c shL, xAll_eq m c shR]
    isplitl [HxNL HxFL]
    · isplitl [HxNL] <;> iassumption
    isplitl [HxNR] <;> iassumption
  isplitl [HoN HoF]
  · rw [oAll_outval]
    isplitl [HoN] <;> iassumption
  isplitl [Hs0 Hs1]
  · iapply (slots_sAll c f0 f1)
    isplitl [Hs0] <;> iassumption
  unfold owing; iexact HO

end Cert.KernelIdealProof

end
-- ==== Proof.KernelIdeal.Deal.lean ====
/-
  What the cores have when the kernel is launched.

  Every semaphore of every device is put under the schedule at once; the duties are dealt to the devices that pay them; and
  what the devices owe one another is, seen from each, the two signals of its barrier and the chunks that come to it.
-/
module

public import proofs.«01_k».proof.Proof.KernelIdeal.Body

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The duties -/

/-- The duties at one device's semaphores: the barrier's two, the send's and the receive's along both axes for every chunk, and
    the staging copies of both halves. -/
abbrev Duty : Type := Bool ⊕ (Fin 16 ⊕ (Fin 16 ⊕ (Fin 16 ⊕ (Fin 16 ⊕ (Fin 16 ⊕ Fin 16)))))

/-- Each is a duty of one semaphore in one round. -/
def dutyAt : Duty → Ix × ℕ × Bool
  | .inl d => (iBar, 0, d)
  | .inr (.inl k) => (iYs k, 0, false)
  | .inr (.inr (.inl k)) => (iYr k, 0, false)
  | .inr (.inr (.inr (.inl k))) => (iXs k, 0, false)
  | .inr (.inr (.inr (.inr (.inl k)))) => (iXr k, 0, false)
  | .inr (.inr (.inr (.inr (.inr (.inl k))))) => (iCp (sl k.val), k.val / 2, false)
  | .inr (.inr (.inr (.inr (.inr (.inr k))))) => (iCp (sl (16 + k.val)), (16 + k.val) / 2, false)

theorem copy_injective {j j' : ℕ} (h : ((iCp (sl j) : Ix), j / 2, false) = (iCp (sl j'), j' / 2, false)) : j = j' := by
  have h1 : j / 2 = j' / 2 := congrArg (fun p : Ix × ℕ × Bool => p.2.1) h
  have h2 : (iCp (sl j) : Ix) = iCp (sl j') := congrArg (fun p : Ix × ℕ × Bool => p.1) h
  simp only [Sum.inr.injEq] at h2
  have h3 : j % 2 = j' % 2 := congrArg Fin.val h2
  omega

theorem dutyAt_injective : Function.Injective dutyAt := by
  rintro (d | k | k | k | k | k | k) (d' | k' | k' | k' | k' | k' | k') h
  all_goals first
    | (have h' := copy_injective h; have := k.isLt; have := k'.isLt; first | omega | (have e : k = k' := Fin.ext (by omega); rw [e]))
    | (simp only [dutyAt, Prod.mk.injEq, Sum.inl.injEq, Sum.inr.injEq, reduceCtorEq, _root_.and_true, _root_.true_and, _root_.false_and] at h; done)
    | (simp only [dutyAt, Prod.mk.injEq, Sum.inl.injEq, Sum.inr.injEq, _root_.and_true, _root_.true_and] at h; subst h; rfl)

/-- The duty as the machine names it. -/
def tokOf (ct : Dev nD × Duty) : GSem nD τ sig × ℕ × Bool := (cell ct.1 (dutyAt ct.2).1, (dutyAt ct.2).2)

theorem tokOf_injective : Function.Injective tokOf := by
  rintro ⟨c, t⟩ ⟨c', t'⟩ h
  have h1 := cell_injective (a₁ := (c, (dutyAt t).1)) (a₂ := (c', (dutyAt t').1)) (congrArg Prod.fst h)
  have h2 : (dutyAt t).2 = (dutyAt t').2 := congrArg (fun p : GSem nD τ sig × ℕ × Bool => p.2) h
  have h3 : c = c' := congrArg Prod.fst h1
  have h4 : t = t' := dutyAt_injective (Prod.ext (congrArg Prod.snd h1) h2)
  rw [h3, h4]

/-- All the semaphores, and all the duties. -/
def allCells : Finset (GSem nD τ sig) := Finset.univ.map ⟨fun ci : Dev nD × Ix => cell ci.1 ci.2, cell_injective⟩
def allDuties : Finset (GSem nD τ sig × ℕ × Bool) := Finset.univ.map ⟨tokOf, tokOf_injective⟩

/-- The resources of the launch: the pipeline's, and the schedule's. -/
def u₀ : UU := (initOf (Pipeline.cells cfgs cellOf_inj) (Pipeline.launchToks cfgs cellOf_inj), initOf allCells allDuties)

/-- The duties at device `c`'s own semaphores. -/
def ownToks (c : Dev nD) : sProp 𝕄 :=
  iprop((dutyTok ER (cell c iBar) 0 false ∗ dutyTok ER (cell c iBar) 0 true)
    ∗ (bigSep Finset.univ fun k => dutyTok ER (cell c (iYs k)) 0 false) ∗ (bigSep Finset.univ fun k => dutyTok ER (cell c (iYr k)) 0 false)
    ∗ (bigSep Finset.univ fun k => dutyTok ER (cell c (iXs k)) 0 false) ∗ (bigSep Finset.univ fun k => dutyTok ER (cell c (iXr k)) 0 false)
    ∗ (bigSep Finset.univ fun k : Fin 16 => dutyTok ER (cell c (iCp (sl k.val))) (k.val / 2) false)
    ∗ bigSep Finset.univ fun k : Fin 16 => dutyTok ER (cell c (iCp (sl (16 + k.val)))) ((16 + k.val) / 2) false)

theorem duties_own (c : Dev nD) :
    (bigSep Finset.univ fun t : Duty => (dutyTok ER (tokOf (c, t)).1 (tokOf (c, t)).2.1 (tokOf (c, t)).2.2 : sProp 𝕄)) = ownToks c := by
  rw [bigSep_univ_sum, bigSep_univ_sum, bigSep_univ_sum, bigSep_univ_sum, bigSep_univ_sum, bigSep_univ_sum,
    bigSep_univ_eq_bigSepL [false, true] (by decide) (by decide) (fun d : Bool => (dutyTok ER (tokOf (c, .inl d)).1 (tokOf (c, .inl d)).2.1 (tokOf (c, .inl d)).2.2 : sProp 𝕄))]
  rfl

/-- What the launch gives device `c`: its semaphores' rounds at their start, and their duties. -/
def given (c : Dev nD) : sProp 𝕄 :=
  iprop((bigSep Finset.univ fun i : Ix => roundState ER (Rd m) (cell c i) 0)
    ∗ ((bigSep Finset.univ fun i : Ix => atPos ER (cell c i) 0 ∅ 0) ∗ bigSep Finset.univ fun i : Ix => reached ER (cell c i) 0) ∗ ownToks c)

theorem fund_all : BI.own (ER (initOf allCells allDuties)) ⊢ (|==> bigSep Finset.univ (given m) : sProp 𝕄) := by
  have hX (Φ : GSem nD τ sig → sProp 𝕄) : bigSep allCells Φ = bigSep Finset.univ fun c : Dev nD => bigSep Finset.univ fun i : Ix => Φ (cell c i) := by
    unfold allCells; rw [bigSep_map, bigSep_univ_prod]; rfl
  have hT : bigSep allDuties (fun x => (dutyTok ER x.1 x.2.1 x.2.2 : sProp 𝕄)) = bigSep Finset.univ fun c : Dev nD => ownToks c := by
    unfold allDuties; rw [bigSep_map, bigSep_univ_prod]
    exact bigSep_congr fun c _ => duties_own c
  iintro HX
  imod (Rounds.fund ER (Rd m) allCells allDuties) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold given; simp only [bigSep_sep']
  isplitl [Hst']; · iexact Hst'
  isplitl [Hat' Hr']
  · isplitl [Hat'] <;> iassumption
  iexact Htok'

/-! ## Every semaphore under the schedule -/

theorem ownSemFacts : Pipeline.OwnSemFacts cfg0.spec osem := by decide

/-- The barrier is the launch's one semaphore that outlives it. -/
theorem unscopedSems0_eq (c : Dev nD) : (unscopedSems0 c : sProp 𝕄) = semVal (cell c iBar) 0 := by
  unfold unscopedSems0; rw [bigSep_eq_bigSepL_of_eq [SemLoc.reg bar] (by decide) (by decide)]; rfl

/-- A device's semaphores at zero: its own, and the barrier. -/
theorem sems0_eq (c : Dev nD) :
    (bigSep Finset.univ fun i : Ix => semVal (cell c i) 0 : sProp 𝕄)
      = iprop(unscopedSems0 c ∗ Pipeline.ownSems0 (Ix := Unit) (Name := ℕ) (U := UU) (Lvl := ℕ) (Val := Elt F) (τ := τ) osem c) := by
  rw [bigSep_univ_sum, unscopedSems0_eq, bigSep_univ_eq_bigSepL [()] (by decide) (by decide) (fun a : Unit => (semVal (cell c (.inl a)) 0 : sProp 𝕄))]
  rfl

theorem core_alloc (c : Dev nD) :
    iprop(Pipeline.ownSems0 (Ix := Unit) (Name := ℕ) (U := UU) (Lvl := ℕ) (Val := Elt F) (τ := τ) osem c ∗ unscopedSems0 c ∗ given m c)
      ⊢ |={Set.univ}=> iprop((bigSep Finset.univ fun i : Ix => iprop(∃ κ : ℕ, cellInv ER (Rd m) κ (cell c i)))
          ∗ ((bigSep Finset.univ fun i : Ix => atPos ER (cell c i) 0 ∅ 0) ∗ bigSep Finset.univ fun i : Ix => reached ER (cell c i) 0) ∗ ownToks c) := by
  unfold given
  iintro ⟨Hos, Hus, Hst, Hat, Htok⟩
  ihave Hv := (Entails.of_eq (sems0_eq (F := F) c).symm) $$ [Hos Hus]
  · isplitl [Hus] <;> iassumption
  imod (show iprop((bigSep Finset.univ fun i : Ix => semVal (cell c i) 0) ∗ bigSep Finset.univ fun i : Ix => roundState ER (Rd m) (cell c i) 0)
      ⊢ (|={Set.univ}=> bigSep Finset.univ fun i : Ix => iprop(∃ κ : ℕ, cellInv ER (Rd m) κ (cell c i)) : sProp 𝕄) from by
        rw [← bigSep_sep']
        exact (bigSep_mono fun i _ => (Rounds.body_intro ER (Rd m) (cell c i)).trans inv_alloc).trans (bigSep_fupd _ _)) $$ [Hv Hst] with Hinv
  · isplitl [Hv] <;> iassumption
  imodintro
  isplitl [Hinv]; · iexact Hinv
  isplitl [Hat] <;> iassumption

/-! ## The duties dealt -/

/-- Each device's duties come from its neighbours' semaphores and its own. -/
theorem toks_dealt : (bigSep Finset.univ fun c : Dev nD => (ownToks c : sProp 𝕄)) = bigSep Finset.univ fun c : Dev nD => payToks c := by
  unfold ownToks payToks
  simp only [bigSep_sep']
  rw [bigSep_univ_equiv ynE (fun c : Dev nD => (dutyTok ER (cell c iBar) 0 false : sProp 𝕄)),
    bigSep_univ_equiv xnE (fun c : Dev nD => (dutyTok ER (cell c iBar) 0 true : sProp 𝕄)),
    bigSep_univ_equiv ynE (fun c : Dev nD => (bigSep Finset.univ fun k => dutyTok ER (cell c (iYr k)) 0 false : sProp 𝕄)),
    bigSep_univ_equiv xnE (fun c : Dev nD => (bigSep Finset.univ fun k => dutyTok ER (cell c (iXr k)) 0 false : sProp 𝕄))]
  rfl

/-- What a core has then: some names for the invariants, every semaphore under the schedule, its positions and its duties. -/
def dealt (c : Dev nD) : sProp 𝕄 :=
  iprop(∃ K : Dev nD × Ix → ℕ, ((bigSep Finset.univ fun ci : Dev nD × Ix => cellInv ER (Rd m) (K ci) (cell ci.1 ci.2))
      ∗ bigSep Finset.univ fun ci : Dev nD × Ix => reached ER (cell ci.1 ci.2) 0)
    ∗ (bigSep Finset.univ fun i : Ix => atPos ER (cell c i) 0 ∅ 0) ∗ payToks c)

/-- The record of all the semaphores goes to every device. -/
theorem deal :
    (bigSep Finset.univ fun c : Dev nD => iprop((bigSep Finset.univ fun i : Ix => iprop(∃ κ : ℕ, cellInv ER (Rd m) κ (cell c i)))
          ∗ ((bigSep Finset.univ fun i : Ix => atPos ER (cell c i) 0 ∅ 0) ∗ bigSep Finset.univ fun i : Ix => reached ER (cell c i) 0) ∗ ownToks c) : sProp 𝕄)
      ⊢ bigSep Finset.univ (dealt m) := by
  rw [bigSep_sep', bigSep_sep', bigSep_sep', toks_dealt,
    ← bigSep_univ_prod (fun ci : Dev nD × Ix => iprop(∃ κ : ℕ, cellInv ER (Rd m) κ (cell ci.1 ci.2))),
    ← bigSep_univ_prod (fun ci : Dev nD × Ix => (reached ER (cell ci.1 ci.2) 0 : sProp 𝕄))]
  iintro ⟨HI, ⟨Hat, #HR⟩, Htok⟩
  ihave HK := (BI.bigSep_exists_pi Finset.univ (fun (ci : Dev nD × Ix) (κ : ℕ) => (cellInv ER (Rd m) κ (cell ci.1 ci.2) : sProp 𝕄))) $$ HI
  icases HK with ⟨%K, #HI⟩
  ihave H := (Entails.of_eq (bigSep_sep' Finset.univ (fun c : Dev nD => bigSep Finset.univ fun i : Ix => (atPos ER (cell c i) 0 ∅ 0 : sProp 𝕄)) payToks).symm) $$ [Hat Htok]
  · isplitl [Hat] <;> iassumption
  have hd (c : Dev nD) : iprop(((bigSep Finset.univ fun ci : Dev nD × Ix => cellInv ER (Rd m) (K ci) (cell ci.1 ci.2))
      ∗ bigSep Finset.univ fun ci : Dev nD × Ix => reached ER (cell ci.1 ci.2) 0)
      ∗ (bigSep Finset.univ fun i : Ix => atPos ER (cell c i) 0 ∅ 0) ∗ payToks c) ⊢ dealt m c := by
    unfold dealt; iintro H; iexists K; iexact H
  iapply ((sep_mono_left (BI.bigSep_of_persistent (Finset.univ : Finset (Dev nD)) _)).trans
    (by rw [← bigSep_sep']; exact bigSep_mono fun c _ => hd c))
  isplitr [H]
  · isplitl; · iexact HI
    iexact HR
  iexact H

/-- The launch's one step for all devices. -/
theorem glob : (bigSep Finset.univ fun c => iprop(Pipeline.ownSems0 (Ix := Unit) (Name := ℕ) (U := UU) (Lvl := ℕ) (Val := Elt F) (τ := τ) osem c ∗ unscopedSems0 c ∗ given m c) : sProp 𝕄)
    ⊢ |={Set.univ}=> bigSep Finset.univ (dealt m) :=
  ((bigSep_mono fun c _ => core_alloc m c).trans (bigSep_fupd _ _)).trans (BI.fupd_mono (deal m))

/-! ## What is owed to a core -/

theorem launch_owedX (c : Dev nD) (l : List (Fin 16)) :
    (Pipeline.launchCred (fun d => owedX d l) c : sProp 𝕄) ⊢ bigSepL l fun k => cred (tallyAt (cell c (iXr k)) () N) := by
  induction l with
  | nil => exact Entails.of_eq (Pipeline.launchCred_zero c)
  | cons k l ih =>
    have h : (fun d => owedX d (k :: l)) = fun d => owedX d l + tallyAt (cell (xn d) (iXr k)) () N := rfl
    rw [h, Pipeline.launchCred_add, bigSepL_cons']
    iintro ⟨H1, H2⟩
    isplitl [H2]
    · iapply (Pipeline.launchCred_tallyAt (csem (iXr k)) xn xn xn_xn xn_xn () N c); iexact H2
    iapply ih; iexact H1

theorem launch_owedY (c : Dev nD) (l : List (Fin 16)) :
    (Pipeline.launchCred (fun d => owedY d l) c : sProp 𝕄)
      ⊢ iprop((bigSepL l fun k => cred (tallyAt (cell c (iYr k)) () N)) ∗ Pipeline.launchCred (fun d => owedX d chunks) c) := by
  induction l with
  | nil =>
    iintro H
    isplitr; · iempintro
    iexact H
  | cons k l ih =>
    have h : (fun d => owedY d (k :: l)) = fun d => owedY d l + tallyAt (cell (yn d) (iYr k)) () N := rfl
    rw [h, Pipeline.launchCred_add, bigSepL_cons']
    iintro ⟨H1, H2⟩
    ihave H1 := ih $$ H1
    icases H1 with ⟨H1, H3⟩
    isplitl [H1 H2]
    · isplitl [H2]
      · iapply (Pipeline.launchCred_tallyAt (csem (iYr k)) yn yn yn_yn yn_yn () N c); iexact H2
      iexact H1
    iexact H3

theorem launch_owed0 (c : Dev nD) : (Pipeline.launchCred owed0 c : sProp 𝕄) ⊢ credits c := by
  have h : (owed0 : Dev nD → CellTallies nD τ sig Unit)
      = fun d => (owedY d chunks + tallyAt (cell (xn d) iBar) () 1) + tallyAt (cell (yn d) iBar) () 1 := rfl
  have h2 : (tallyAt (cell c iBar) () 2 : CellTallies nD τ sig Unit) = tallyAt (cell c iBar) () 1 + tallyAt (cell c iBar) () 1 := (tallyAt_add _ _ 1 1).symm
  rw [h, Pipeline.launchCred_add, Pipeline.launchCred_add]
  unfold credits
  rw [← sep_chunks, ← sep_chunks, h2]
  iintro ⟨⟨H1, H2⟩, H3⟩
  isplitl [H2 H3]
  · iapply (cred_add _ _).2
    isplitl [H2]
    · iapply (Pipeline.launchCred_tallyAt (csem iBar) xn xn xn_xn xn_xn () 1 c); iexact H2
    iapply (Pipeline.launchCred_tallyAt (csem iBar) yn yn yn_yn yn_yn () 1 c); iexact H3
  ihave H1 := (launch_owedY (F := F) c chunks) $$ H1
  icases H1 with ⟨H1, H3⟩
  isplitl [H1]; · iexact H1
  iapply (launch_owedX (F := F) c chunks); iexact H3

end Cert.KernelIdealProof

end
-- ==== Proof.KernelIdeal.Run.lean ====
/-
  The run of the kernel.

  From any memory with every semaphore at zero, the eight cores' run ends; each device's result is its block of the input plus that of
  a device across `y`, its block is as it was, and every semaphore is back at zero.
-/
module

public import proofs.«01_k».proof.Proof.KernelIdeal.Deal
public import Idealize.ShloMosaic.Lib.Pipeline.Launch
public import Idealize.ShloMosaic.Lib.Pipeline.CollectiveSegs
public import Idealize.ShloMosaic.Lib.Pipeline.ValueKit

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## Before and after the body -/

/-- Before the body: the record of the semaphores, the core's positions and duties, what it is owed, its block and its staging buffer; -/
def before (c : Dev nD) : sProp 𝕄 :=
  iprop((dealt m c ∗ levAts L lv ∗ credits c ∗ xAll m c fullShare) ∗ ∃ f, sAll c f)
/-- after it: every semaphore at zero, the block as it was, and the staging buffer. -/
def after (c : Dev nD) : sProp 𝕄 :=
  iprop((bigSep Finset.univ fun i : Ix => semVal (cell c i) 0) ∗ xAll m c fullShare ∗ ∃ f, sAll c f)

/-- The one window is the result, and the kernel has one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outval m c
  Φ t := match t with
    | ⟨0, _⟩ => before m c
    | ⟨_ + 1, _⟩ => after m c
  q _ := fullShare
  owed t := match t with
    | ⟨0, _⟩ => owed0 c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The result's buffer, held at contents `X`. -/
abbrev held (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

def bodyPre (c : Dev nD) : sProp 𝕄 :=
  iprop(before m c ∗ (dats m ρ 0 c).owesAt () t0_0.castSucc ∗ ∃ d, held c ((dats m ρ 0 c).before (0 : Fin 1) t0_0 d))
def bodyPost (c : Dev nD) : sProp 𝕄 :=
  iprop(after m c ∗ (dats m ρ 0 c).owesAt () t0_0.succ ∗ held c (outval m c))

/-- The body takes the one to the other. -/
theorem wp_body (c : Dev nD) : bodyPre m ρ c ⊢ runs c program (fun _ => bodyPost m ρ c) := by
  unfold bodyPre before dealt
  iintro ⟨⟨⟨⟨%K, ⟨#HI, #HR⟩, Hat, Htok⟩, #Hlev, Hcr, Hx⟩, Hs⟩, Ho, ⟨%d, %f, -, Hout⟩⟩
  unfold Dat.owesAt Pipeline.owesWithin
  icases Ho with ⟨%W, %hW, HO⟩
  rw [show (dats m ρ 0 c).owed t0_0.castSucc = owed0 c from rfl]
  iapply (wp_program m K c (fun _ => bodyPost m ρ c))
  isplitr
  · unfold ctx
    isplitr; · iexact HI
    isplitr; · iexact HR
    iexact Hlev
  isplitl [Hat]; · iexact Hat
  isplitl [Htok]; · iexact Htok
  isplitl [Hcr]; · iexact Hcr
  isplitl [Hx]; · iexact Hx
  isplitl [Hout]; · unfold oAll; iexists f; iexact Hout
  isplitl [Hs]; · iexact Hs
  isplitl [HO]; · unfold owing; iexists W; iexact HO
  iintro ⟨Hz, Hx, Hout, Hs, HO⟩
  unfold bodyPost after owing oAll
  isplitl [Hz Hx Hs]
  · isplitl [Hz]; · iexact Hz
    isplitl [Hx] <;> iassumption
  isplitl [HO]
  · unfold Dat.owesAt Pipeline.owesWithin
    rw [show (dats m ρ 0 c).owed t0_0.succ = 0 from rfl]
    icases HO with ⟨%W', HO⟩
    iexists W'
    isplitr; · ipureintro; exact fun _ _ => Or.inl trivial
    iexact HO
  iexists _
  isplitr; · (ipureintro; rfl)
  iexact Hout

set_option maxRecDepth 65536 in
/-- The same, as the launch asks for it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ runs c (cc0_body xM (Memref.isWhole_whole _) oM (Memref.isWhole_whole _) sM (Memref.isWhole_whole _)
    cc0_scratch1 cc0_scratch2 cc0_scratch3 cc0_scratch4 cc0_scratch5) (fun _ => bodyPost m ρ c)
  rw [body_eq]
  exact wp_body m ρ c

/-! ## What the launch asks for besides -/

theorem share_eq (c : Dev nD) (w : Fin cfg0.W) : (dats m ρ 0 c).share w = fullShare := by unfold Dat.share; split <;> rfl

/-- What a core has before its body, but for the staging buffer. -/
def start (c : Dev nD) : sProp 𝕄 := iprop(dealt m c ∗ levAts L lv ∗ credits c ∗ xAll m c fullShare)

theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ dealt m c)
      ⊢ |={Set.univ}=> iprop(start m c ∗ emp) := by
  have hx : (Pipeline.unscopedRestP Pipeline.Prefetch.none cfg0.spec c (fun b => m ((c : Thread nD τ).loc b)) : sProp 𝕄) = xAll m c fullShare := by
    rw [Pipeline.unscopedRestP_none]; exact unscopedRest0_eq c _
  rw [hx]
  iintro ⟨Hx, Hlev, Hcr, -, HG⟩
  ihave Hc := (launch_owed0 (F := F) c) $$ Hcr
  imodintro
  unfold start
  isplitl
  · isplitl [HG]; · iexact HG
    isplitl [Hlev]; · iexact Hlev
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before start sAll
  iintro ⟨Hs, -, Hr⟩
  isplitl [Hs] <;> iassumption

theorem phi1_exit (c : Dev nD) :
    (dats m ρ 0 c).Φ (Fin.last cfg0.N) ⊢ iprop((unscopedSems0 c ∗ xAll m c fullShare) ∗ Pipeline.ownSems0 osem c ∗ Pipeline.scopedRest cfg0.spec c) := by
  rw [show (dats m ρ 0 c).Φ (Fin.last cfg0.N) = after m c from rfl, scopedRest0_eq]
  unfold after
  rw [sems0_eq]
  unfold sAll
  iintro ⟨⟨Hu, Ho⟩, Hx, Hs⟩
  isplitl [Hu Hx]
  · isplitl [Hu] <;> iassumption
  isplitl [Ho] <;> iassumption

/-- The pipeline's own waits come before every semaphore of the schedule. -/
theorem mayWait_stage (c : Dev nD) (q : DmaSem sig) (hq : ∀ o : Own, ownDma o ≠ q) (O : CellTallies nD τ sig Unit) (hO : O = owed0 c ∨ O = 0) :
    (levAts L lv : sProp 𝕄) ⊢ MayWait (c : Thread nD τ) (.dma q) () O := by
  have h0 : lv ((c : Thread nD τ), (.dma q : SemLoc sig)) () = 0 := by
    unfold lv
    have hd : decode (.dma q : SemLoc sig) = none := by
      unfold decode
      rw [dif_neg]
      rintro ⟨u | o, h⟩
      · cases h
      · exact hq o (SemLoc.dma.inj h)
    show (decode (.dma q : SemLoc sig)).elim 0 levelOf = 0
    rw [hd]; rfl
  rcases hO with rfl | rfl
  · exact Pipeline.mayWait_of_levAts (L_tc c _) fun g u h => by
      obtain ⟨d, i, rfl, hl⟩ := owed0_pos h
      exact ⟨L_tc d _, by rw [h0, lv_cell]; exact hl⟩
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w; fin_cases s; decide) _ (by
      rcases t with ⟨_ | _, ht⟩
      · exact Or.inl rfl
      · exact Or.inr rfl)

/-! ## The run -/

/-- The result array of device `c` after the run. -/
def final (c : Dev nD) (w : Fin cfg0.W) : Buf (Elt F) ((cfg0.win w).arr.view.loc (c : Thread nD τ)) := (dats m ρ 0 c).arrAt w cfg0.N

set_option maxRecDepth 65536 in
theorem run_main : θ_run defs (onTc (τ := τ) (main (F := F))) (s₀ m ρ)
    (fun r => (∀ c : Dev nD, (∀ w : Fin cfg0.W, r.2.mem ((cfg0.win w).arr.view.loc (c : Thread nD τ)) = final m ρ c w)
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed0) (howed₀ := fun _ => rfl) (howedN := fun _ => rfl)
    (L := L) (lv := lv) (hL := L_of_ne) (hwaits := waits m ρ)
    (G := given m) (G' := dealt m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ xAll m c fullShare)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      unfold xAll
      iintro ⟨⟨Hu, Hx⟩, -, HSI⟩
      icombine HSI Hx gives %hx
      imod (Pipeline.unscopedSems0_read (X := unscopedSems0 c) (c := c) fupd_intro s') $$ [Hu HSI] with ⟨%hz, HSI⟩
      · isplitl [Hu] <;> iassumption
      imodintro
      isplitr; · ipureintro; exact ⟨hz, Buf.eq_of_forall_mem_univ hx⟩
      iexact HSI)
    (hQ := fun _ h hs => ⟨fun c => ⟨fun w => (h c).1 w, (h c).2.2.2⟩, sem_eq_zero hs fun c => (h c).2.2.1⟩)

/-- The result array is the sums. -/
theorem final_out (c : Dev nD) : final m ρ c (0 : Fin 1) = outval m c := by
  refine (dats m ρ 0 c).arrAt_eq_of_after_last (0 : Fin 1) t0_0 (by decide +kernel) _ fun j => ?_
  rfl

/-- The run: each device's result is the sums, its block is unchanged, and every semaphore is at zero. -/
theorem run : θ_run defs (onTc (τ := τ) (main (F := F))) (s₀ m ρ)
    (fun r => (∀ c : Dev nD, r.2.mem ((c : Thread nD τ).loc main_v1) = outval m c
      ∧ r.2.mem ((c : Thread nD τ).loc main_arg0) = m ((c : Thread nD τ).loc main_arg0)) ∧ r.2.sem = fun _ => 0) :=
  (θ_run defs _ _).mono (fun r h => ⟨fun c => ⟨((h.1 c).1 (0 : Fin 1)).trans (final_out m ρ c), (h.1 c).2⟩, h.2⟩) (run_main m ρ)

end Cert.KernelIdealProof

end
-- ==== Proof.Equation.lean ====
/-
  The equation: where each device holds its half of one array, every device's result is the sum of the two halves.

  A device's block depends on its `y` coordinate alone, and the block that it adds to its own comes from a device with the other one.
-/
module

public import proofs.«01_k».proof.Defs
public import proofs.«01_k».proof.Proof.Reference
public import proofs.«01_k».proof.Proof.KernelIdeal.Run

@[expose] public section

noncomputable section

namespace Cert.EquationProof

open Cert.KernelIdeal Cert.KernelIdeal.Gen Cert.KernelIdealProof Idealize.ShloMosaic Idealize.ShloMosaic.TcCoe Idealize.SL.Sem

/-- Device `c`'s coordinate on the mesh's `y` axis. -/
def yOf (c : Dev nD) : Fin 2 := ⟨c.val / 2 % 2, Nat.mod_lt _ (by decide)⟩

theorem yOf_yn (c : Dev nD) : yOf (yn c) = 1 - yOf c := by revert c; decide
theorem yOf_yn_xn (c : Dev nD) : yOf (yn (xn c)) = 1 - yOf c := by revert c; decide

/-- The block added to device `c`'s own comes from a device with the other `y` coordinate. -/
theorem yOf_peer (c : Dev nD) (i : S8192x1024.Idx) : yOf (peer c i) = 1 - yOf c := by
  unfold peer
  split
  · exact yOf_yn c
  · exact yOf_yn_xn c

/-- The element of device `c`'s block at `i` is the array's in the half that the `y` coordinate names. -/
theorem block_eq (x : Cert.ReferenceIdeal.S16384x1024.Idx → Elt Ideal .f32) (c : Dev nD) (i : S8192x1024.Idx) :
    (Layout.blockN ⟨2, ![8192, 1024]⟩ ⟨2, ![16384, 1024]⟩ (Layout.meshBlock [2, 2, 2] ![[1], []] c) x) i = x (Cert.ReferenceIdealProof.rowOf (yOf c) i) := by
  rw [Layout.blockN_apply]
  refine congrArg x (funext fun a => Fin.ext ?_)
  have hy : Layout.meshLin [2, 2, 2] c.val [1] = (yOf c).val := by revert c; decide
  rw [Layout.TilesN.idx_val]
  fin_cases a
  · show Layout.meshLin [2, 2, 2] c.val [1] * 8192 + (i 0).val = 8192 * (yOf c).val + (i 0).val
    rw [hy]; omega
  · show 0 * 1024 + (i 1).val = (i 1).val
    omega

/-- The two halves in either order have the same sum. -/
theorem sum_halves (x : Cert.ReferenceIdeal.S16384x1024.Idx → Elt Ideal .f32) (y : Fin 2) (i : S8192x1024.Idx) :
    (x (Cert.ReferenceIdealProof.rowOf (1 - y) i) + x (Cert.ReferenceIdealProof.rowOf y i) : EReal) = Cert.ReferenceIdealProof.total x i := by
  unfold Cert.ReferenceIdealProof.total
  fin_cases y
  · exact add_comm (G := EReal) _ _
  · rfl

variable (m : (ℓ : Loc nD τ sig) → Buf (Elt Ideal) ℓ)

/-- Every device's result is the sum of the two halves of the array. -/
theorem outval_eq (x : Cert.ReferenceIdeal.S16384x1024.Idx → Elt Ideal .f32)
    (h : ∀ c : Dev nD, m ((c : Thread nD τ).loc main_arg0) = Layout.blockN ⟨2, ![8192, 1024]⟩ ⟨2, ![16384, 1024]⟩ (Layout.meshBlock [2, 2, 2] ![[1], []] c) x)
    (c : Dev nD) : outval m c = Cert.ReferenceIdealProof.total x := by
  funext i
  have hx (d : Dev nD) : xval m d i = x (Cert.ReferenceIdealProof.rowOf (yOf d) i) := (congrFun (h d) i).trans (block_eq x d i)
  show (xval m (peer c i) i + xval m c i : EReal) = _
  rw [hx, hx, yOf_peer]
  exact sum_halves x (yOf c) i

end Cert.EquationProof

end
-- ==== Proof.lean ====
/-
  The five claims: the kernel and the reference end with their arguments unchanged and every semaphore at zero, the ideal kernel is
  the kernel's own text, and every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.Equation
public import Idealize.ShloMosaic.Adequacy
public import Idealize.ShloMosaic.Init

@[expose] public section

noncomputable section

namespace Cert.Proof

open Idealize.ShloMosaic Idealize.SL.Sem

/-- The kernel's frame: its argument is unchanged on each device, and every semaphore ends at zero. -/
theorem frame_kernel : Cert.quiescent_Kernel := fun m ρ _ =>
  (θ_run Cert.Kernel.defs _ _).mono (fun _ h => ⟨fun c => (h.1 c).2, h.2⟩) (Cert.KernelProof.run (F := Bits) m ρ)

/-- The ideal kernel's frame. -/
theorem frame_kernelIdeal : Cert.quiescent_KernelIdeal := fun m ρ _ =>
  (θ_run Cert.KernelIdeal.defs _ _).mono (fun _ h => ⟨fun c => (h.1 c).2, h.2⟩) (Cert.KernelIdealProof.run (F := Ideal) m ρ)

/-- The reference's frame: it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdealProof.run m ρ)

/-- Over the extended reals every device's result is the reference's. -/
theorem value : Cert.algebraic_KernelIdeal_ReferenceIdeal := fun m ρ m' ρ' _ hm =>
  ⟨Cert.ReferenceIdealProof.total (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).1.trans (Cert.EquationProof.outval_eq m _ hm c), (h.1 c).2⟩)
      (Cert.KernelIdealProof.run (F := Ideal) m ρ),
    (θ_run Cert.ReferenceIdeal.defs _ _).mono (fun _ h => h 0) (Cert.ReferenceIdealProof.run m' ρ')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
